-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S256x1x11520 : Shape := ⟨3, ![256, 1, 11520]⟩
abbrev S11520x2528 : Shape := ⟨2, ![11520, 2528]⟩
abbrev S2528 : Shape := ⟨1, ![2528]⟩
abbrev S20224 : Shape := ⟨1, ![20224]⟩
abbrev S_ : Shape := ⟨0, ![]⟩

class Facts : Prop where
  bcast_S_S256x1x11520 : S_.BroadcastsInDim S256x1x11520 (![] : Fin 0 → Fin S256x1x11520.rank)

variable [Facts]

def fn {F : FTy → Type} [FloatOps F] (main_arg0 : FVec F S256x1x11520 .bf16) (main_arg1 : IVec S11520x2528 32) (main_arg2 : IVec S2528 32) (main_arg3 : FVec F S20224 .f32) : IVec S256x1x11520 1 :=
  let main_v0 : FVec F S256x1x11520 .bf16 := Host.absf main_arg0
  let main_cst : FVec F S_ .bf16 := constant S_ .bf16 0x7F80#16
  let main_v1 : FVec F S256x1x11520 .bf16 := broadcastInDim S256x1x11520 ![] bcast_S_S256x1x11520 main_cst
  let main_v2 : IVec S256x1x11520 1 := cmpf .olt main_v0 main_v1
  main_v2
-- ==== Kernel.lean ====
abbrev S256x1x11520 : Shape := ⟨3, ![256, 1, 11520]⟩
abbrev S11520x2528 : Shape := ⟨2, ![11520, 2528]⟩
abbrev S2528 : Shape := ⟨1, ![2528]⟩
abbrev S20224 : Shape := ⟨1, ![20224]⟩
abbrev S256x11520 : Shape := ⟨2, ![256, 11520]⟩
abbrev S1x2528 : Shape := ⟨2, ![1, 2528]⟩
abbrev S1x20224 : Shape := ⟨2, ![1, 20224]⟩
abbrev S256x20224 : Shape := ⟨2, ![256, 20224]⟩
abbrev S256x1280 : Shape := ⟨2, ![256, 1280]⟩
abbrev S1280x128 : Shape := ⟨2, ![1280, 128]⟩
abbrev S1x128 : Shape := ⟨2, ![1, 128]⟩
abbrev S1x1024 : Shape := ⟨2, ![1, 1024]⟩
abbrev S256x1024 : Shape := ⟨2, ![256, 1024]⟩
abbrev S1280x1024 : Shape := ⟨2, ![1280, 1024]⟩
abbrev S640x128 : Shape := ⟨2, ![640, 128]⟩
abbrev S8x128 : Shape := ⟨2, ![8, 128]⟩
abbrev S8x128x1 : Shape := ⟨3, ![8, 128, 1]⟩
abbrev S256x1x20224 : Shape := ⟨3, ![256, 1, 20224]⟩

abbrev nBuf : Space → Nat
  | .hbm => 9
  | .vmem => 12
  | .smem => 0
  | _ => 0

abbrev bufTy : (tb : Table) → Fin (tcTables nBuf tb) → BufTy
  | .hbm, ⟨0, _⟩ => ⟨S256x1x11520, .bf16⟩
  | .hbm, ⟨1, _⟩ => ⟨S11520x2528, .i32⟩
  | .hbm, ⟨2, _⟩ => ⟨S2528, .i32⟩
  | .hbm, ⟨3, _⟩ => ⟨S20224, .f32⟩
  | .hbm, ⟨4, _⟩ => ⟨S256x11520, .bf16⟩
  | .hbm, ⟨5, _⟩ => ⟨S1x2528, .i32⟩
  | .hbm, ⟨6, _⟩ => ⟨S1x20224, .f32⟩
  | .hbm, ⟨7, _⟩ => ⟨S256x20224, .bf16⟩
  | .hbm, ⟨8, _⟩ => ⟨S256x1x20224, .bf16⟩
  | .local _ .vmem, ⟨0, _⟩ => ⟨S256x1280, .bf16⟩
  | .local _ .vmem, ⟨1, _⟩ => ⟨S256x1280, .bf16⟩
  | .local _ .vmem, ⟨2, _⟩ => ⟨S1280x128, .i32⟩
  | .local _ .vmem, ⟨3, _⟩ => ⟨S1280x128, .i32⟩
  | .local _ .vmem, ⟨4, _⟩ => ⟨S1x128, .i32⟩
  | .local _ .vmem, ⟨5, _⟩ => ⟨S1x128, .i32⟩
  | .local _ .vmem, ⟨6, _⟩ => ⟨S1x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S1280x1024, .bf16⟩
  | .local _ .vmem, ⟨11, _⟩ => ⟨S256x1024, .f32⟩
  | _, _ => ⟨S256x1x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![20, 9], ![false, false]⟩

def k0_cond2 (i : grid0.Coords) : BitVec 1 :=
  let arg1 : BitVec 32 := BitVec.ofNat 32 (i 1).val
  let c8_i32_61 : BitVec 32 := 8#32
  let v186 : BitVec 1 := Scalar.cmpi .eq arg1 c8_i32_61
  let v187 : BitVec 32 := Scalar.extui v186
  let c0_i32_62 : BitVec 32 := 0#32
  let v188 : BitVec 1 := Scalar.cmpi .ne v187 c0_i32_62
  v188

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1280x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S256x1x11520 : Shape := ⟨3, ![256, 1, 11520]⟩
abbrev S11520x2528 : Shape := ⟨2, ![11520, 2528]⟩
abbrev S2528 : Shape := ⟨1, ![2528]⟩
abbrev S20224 : Shape := ⟨1, ![20224]⟩
abbrev S_ : Shape := ⟨0, ![]⟩
abbrev S256x1 : Shape := ⟨2, ![256, 1]⟩
abbrev S256x1x1 : Shape := ⟨3, ![256, 1, 1]⟩
abbrev S2528x8 : Shape := ⟨2, ![2528, 8]⟩
abbrev S2528x1 : Shape := ⟨2, ![2528, 1]⟩
abbrev S256x1x2528 : Shape := ⟨3, ![256, 1, 2528]⟩
abbrev S1x1x2528 : Shape := ⟨3, ![1, 1, 2528]⟩
abbrev S256x1x2528x1 : Shape := ⟨4, ![256, 1, 2528, 1]⟩
abbrev S256x1x2528x8 : Shape := ⟨4, ![256, 1, 2528, 8]⟩
abbrev S256x1x20224 : Shape := ⟨3, ![256, 1, 20224]⟩

abbrev nBuf : Space → Nat
  | .hbm => 220
  | .vmem => 0
  | .smem => 0
  | _ => 0

abbrev hbmTy0_0 (i : Nat) : BufTy := match i % 128 with
  | 0 => ⟨S256x1x11520, .bf16⟩
  | 1 => ⟨S11520x2528, .i32⟩
  | 2 => ⟨S2528, .i32⟩
  | 3 => ⟨S20224, .f32⟩
  | 4 => ⟨S256x1x11520, .f32⟩
  | 5 => ⟨S_, .f32⟩
  | 6 => ⟨S256x1, .f32⟩
  | 7 => ⟨S256x1x1, .f32⟩
  | 8 => ⟨S2528x8, .f32⟩
  | 9 => ⟨S_, .i32⟩
  | 10 => ⟨S11520x2528, .i32⟩
  | 11 => ⟨S11520x2528, .i32⟩
  | 12 => ⟨S_, .i32⟩
  | 13 => ⟨S11520x2528, .i32⟩
  | 14 => ⟨S11520x2528, .i32⟩
  | 15 => ⟨S11520x2528, .bf16⟩
  | 16 => ⟨S_, .i32⟩
  | 17 => ⟨S2528, .i32⟩
  | 18 => ⟨S2528, .i32⟩
  | 19 => ⟨S_, .i32⟩
  | 20 => ⟨S2528, .i32⟩
  | 21 => ⟨S2528, .i32⟩
  | 22 => ⟨S2528, .f32⟩
  | 23 => ⟨S2528x1, .f32⟩
  | 24 => ⟨S2528, .f32⟩
  | 25 => ⟨S256x1x2528, .f32⟩
  | 26 => ⟨S1x1x2528, .f32⟩
  | 27 => ⟨S256x1x2528, .f32⟩
  | 28 => ⟨S256x1x2528, .f32⟩
  | 29 => ⟨S256x1x2528, .f32⟩
  | 30 => ⟨S256x1x2528, .f32⟩
  | 31 => ⟨S1x1x2528, .f32⟩
  | 32 => ⟨S256x1x2528, .f32⟩
  | 33 => ⟨S256x1x2528, .f32⟩
  | 34 => ⟨S_, .i32⟩
  | 35 => ⟨S11520x2528, .i32⟩
  | 36 => ⟨S11520x2528, .i32⟩
  | 37 => ⟨S_, .i32⟩
  | 38 => ⟨S11520x2528, .i32⟩
  | 39 => ⟨S11520x2528, .i32⟩
  | 40 => ⟨S11520x2528, .bf16⟩
  | 41 => ⟨S_, .i32⟩
  | 42 => ⟨S2528, .i32⟩
  | 43 => ⟨S2528, .i32⟩
  | 44 => ⟨S_, .i32⟩
  | 45 => ⟨S2528, .i32⟩
  | 46 => ⟨S2528, .i32⟩
  | 47 => ⟨S2528, .f32⟩
  | 48 => ⟨S2528x1, .f32⟩
  | 49 => ⟨S2528, .f32⟩
  | 50 => ⟨S256x1x2528, .f32⟩
  | 51 => ⟨S1x1x2528, .f32⟩
  | 52 => ⟨S256x1x2528, .f32⟩
  | 53 => ⟨S256x1x2528, .f32⟩
  | 54 => ⟨S256x1x2528, .f32⟩
  | 55 => ⟨S256x1x2528, .f32⟩
  | 56 => ⟨S1x1x2528, .f32⟩
  | 57 => ⟨S256x1x2528, .f32⟩
  | 58 => ⟨S256x1x2528, .f32⟩
  | 59 => ⟨S_, .i32⟩
  | 60 => ⟨S11520x2528, .i32⟩
  | 61 => ⟨S11520x2528, .i32⟩
  | 62 => ⟨S_, .i32⟩
  | 63 => ⟨S11520x2528, .i32⟩
  | 64 => ⟨S11520x2528, .i32⟩
  | 65 => ⟨S11520x2528, .bf16⟩
  | 66 => ⟨S_, .i32⟩
  | 67 => ⟨S2528, .i32⟩
  | 68 => ⟨S2528, .i32⟩
  | 69 => ⟨S_, .i32⟩
  | 70 => ⟨S2528, .i32⟩
  | 71 => ⟨S2528, .i32⟩
  | 72 => ⟨S2528, .f32⟩
  | 73 => ⟨S2528x1, .f32⟩
  | 74 => ⟨S2528, .f32⟩
  | 75 => ⟨S256x1x2528, .f32⟩
  | 76 => ⟨S1x1x2528, .f32⟩
  | 77 => ⟨S256x1x2528, .f32⟩
  | 78 => ⟨S256x1x2528, .f32⟩
  | 79 => ⟨S256x1x2528, .f32⟩
  | 80 => ⟨S256x1x2528, .f32⟩
  | 81 => ⟨S1x1x2528, .f32⟩
  | 82 => ⟨S256x1x2528, .f32⟩
  | 83 => ⟨S256x1x2528, .f32⟩
  | 84 => ⟨S_, .i32⟩
  | 85 => ⟨S11520x2528, .i32⟩
  | 86 => ⟨S11520x2528, .i32⟩
  | 87 => ⟨S_, .i32⟩
  | 88 => ⟨S11520x2528, .i32⟩
  | 89 => ⟨S11520x2528, .i32⟩
  | 90 => ⟨S11520x2528, .bf16⟩
  | 91 => ⟨S_, .i32⟩
  | 92 => ⟨S2528, .i32⟩
  | 93 => ⟨S2528, .i32⟩
  | 94 => ⟨S_, .i32⟩
  | 95 => ⟨S2528, .i32⟩
  | 96 => ⟨S2528, .i32⟩
  | 97 => ⟨S2528, .f32⟩
  | 98 => ⟨S2528x1, .f32⟩
  | 99 => ⟨S2528, .f32⟩
  | 100 => ⟨S256x1x2528, .f32⟩
  | 101 => ⟨S1x1x2528, .f32⟩
  | 102 => ⟨S256x1x2528, .f32⟩
  | 103 => ⟨S256x1x2528, .f32⟩
  | 104 => ⟨S256x1x2528, .f32⟩
  | 105 => ⟨S256x1x2528, .f32⟩
  | 106 => ⟨S1x1x2528, .f32⟩
  | 107 => ⟨S256x1x2528, .f32⟩
  | 108 => ⟨S256x1x2528, .f32⟩
  | 109 => ⟨S_, .i32⟩
  | 110 => ⟨S11520x2528, .i32⟩
  | 111 => ⟨S11520x2528, .i32⟩
  | 112 => ⟨S_, .i32⟩
  | 113 => ⟨S11520x2528, .i32⟩
  | 114 => ⟨S11520x2528, .i32⟩
  | 115 => ⟨S11520x2528, .bf16⟩
  | 116 => ⟨S_, .i32⟩
  | 117 => ⟨S2528, .i32⟩
  | 118 => ⟨S2528, .i32⟩
  | 119 => ⟨S_, .i32⟩
  | 120 => ⟨S2528, .i32⟩
  | 121 => ⟨S2528, .i32⟩
  | 122 => ⟨S2528, .f32⟩
  | 123 => ⟨S2528x1, .f32⟩
  | 124 => ⟨S2528, .f32⟩
  | 125 => ⟨S256x1x2528, .f32⟩
  | 126 => ⟨S1x1x2528, .f32⟩
  | 127 => ⟨S256x1x2528, .f32⟩
  | _ => ⟨S256x1x11520, .bf16⟩

abbrev hbmTy0_1 (i : Nat) : BufTy := match i % 128 with
  | 0 => ⟨S256x1x2528, .f32⟩
  | 1 => ⟨S256x1x2528, .f32⟩
  | 2 => ⟨S256x1x2528, .f32⟩
  | 3 => ⟨S1x1x2528, .f32⟩
  | 4 => ⟨S256x1x2528, .f32⟩
  | 5 => ⟨S256x1x2528, .f32⟩
  | 6 => ⟨S_, .i32⟩
  | 7 => ⟨S11520x2528, .i32⟩
  | 8 => ⟨S11520x2528, .i32⟩
  | 9 => ⟨S_, .i32⟩
  | 10 => ⟨S11520x2528, .i32⟩
  | 11 => ⟨S11520x2528, .i32⟩
  | 12 => ⟨S11520x2528, .bf16⟩
  | 13 => ⟨S_, .i32⟩
  | 14 => ⟨S2528, .i32⟩
  | 15 => ⟨S2528, .i32⟩
  | 16 => ⟨S_, .i32⟩
  | 17 => ⟨S2528, .i32⟩
  | 18 => ⟨S2528, .i32⟩
  | 19 => ⟨S2528, .f32⟩
  | 20 => ⟨S2528x1, .f32⟩
  | 21 => ⟨S2528, .f32⟩
  | 22 => ⟨S256x1x2528, .f32⟩
  | 23 => ⟨S1x1x2528, .f32⟩
  | 24 => ⟨S256x1x2528, .f32⟩
  | 25 => ⟨S256x1x2528, .f32⟩
  | 26 => ⟨S256x1x2528, .f32⟩
  | 27 => ⟨S256x1x2528, .f32⟩
  | 28 => ⟨S1x1x2528, .f32⟩
  | 29 => ⟨S256x1x2528, .f32⟩
  | 30 => ⟨S256x1x2528, .f32⟩
  | 31 => ⟨S_, .i32⟩
  | 32 => ⟨S11520x2528, .i32⟩
  | 33 => ⟨S11520x2528, .i32⟩
  | 34 => ⟨S_, .i32⟩
  | 35 => ⟨S11520x2528, .i32⟩
  | 36 => ⟨S11520x2528, .i32⟩
  | 37 => ⟨S11520x2528, .bf16⟩
  | 38 => ⟨S_, .i32⟩
  | 39 => ⟨S2528, .i32⟩
  | 40 => ⟨S2528, .i32⟩
  | 41 => ⟨S_, .i32⟩
  | 42 => ⟨S2528, .i32⟩
  | 43 => ⟨S2528, .i32⟩
  | 44 => ⟨S2528, .f32⟩
  | 45 => ⟨S2528x1, .f32⟩
  | 46 => ⟨S2528, .f32⟩
  | 47 => ⟨S256x1x2528, .f32⟩
  | 48 => ⟨S1x1x2528, .f32⟩
  | 49 => ⟨S256x1x2528, .f32⟩
  | 50 => ⟨S256x1x2528, .f32⟩
  | 51 => ⟨S256x1x2528, .f32⟩
  | 52 => ⟨S256x1x2528, .f32⟩
  | 53 => ⟨S1x1x2528, .f32⟩
  | 54 => ⟨S256x1x2528, .f32⟩
  | 55 => ⟨S256x1x2528, .f32⟩
  | 56 => ⟨S_, .i32⟩
  | 57 => ⟨S11520x2528, .i32⟩
  | 58 => ⟨S11520x2528, .i32⟩
  | 59 => ⟨S_, .i32⟩
  | 60 => ⟨S11520x2528, .i32⟩
  | 61 => ⟨S11520x2528, .i32⟩
  | 62 => ⟨S11520x2528, .bf16⟩
  | 63 => ⟨S_, .i32⟩
  | 64 => ⟨S2528, .i32⟩
  | 65 => ⟨S2528, .i32⟩
  | 66 => ⟨S_, .i32⟩
  | 67 => ⟨S2528, .i32⟩
  | 68 => ⟨S2528, .i32⟩
  | 69 => ⟨S2528, .f32⟩
  | 70 => ⟨S2528x1, .f32⟩
  | 71 => ⟨S2528, .f32⟩
  | 72 => ⟨S256x1x2528, .f32⟩
  | 73 => ⟨S1x1x2528, .f32⟩
  | 74 => ⟨S256x1x2528, .f32⟩
  | 75 => ⟨S256x1x2528, .f32⟩
  | 76 => ⟨S256x1x2528, .f32⟩
  | 77 => ⟨S256x1x2528, .f32⟩
  | 78 => ⟨S1x1x2528, .f32⟩
  | 79 => ⟨S256x1x2528, .f32⟩
  | 80 => ⟨S256x1x2528, .f32⟩
  | 81 => ⟨S256x1x2528x1, .f32⟩
  | 82 => ⟨S256x1x2528x1, .f32⟩
  | 83 => ⟨S256x1x2528x1, .f32⟩
  | 84 => ⟨S256x1x2528x1, .f32⟩
  | 85 => ⟨S256x1x2528x1, .f32⟩
  | 86 => ⟨S256x1x2528x1, .f32⟩
  | 87 => ⟨S256x1x2528x1, .f32⟩
  | 88 => ⟨S256x1x2528x1, .f32⟩
  | 89 => ⟨S256x1x2528x8, .f32⟩
  | 90 => ⟨S256x1x20224, .f32⟩
  | 91 => ⟨S256x1x20224, .bf16⟩
  | _ => ⟨S256x1x11520, .bf16⟩

abbrev hbmTy (i : Nat) : BufTy := match i / 128 with
  | 0 => hbmTy0_0 i
  | 1 => hbmTy0_1 i
  | _ => ⟨S256x1x11520, .bf16⟩

abbrev bufTy : (tb : Table) → Fin (tcTables nBuf tb) → BufTy
  | .hbm, ⟨i, _⟩ => hbmTy i
  | _, _ => ⟨S256x1x11520, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_7 : Ref sig .tc := ⟨.hbm, 59, rfl⟩
abbrev main_v46 : Ref sig .tc := ⟨.hbm, 60, rfl⟩
abbrev main_v47 : Ref sig .tc := ⟨.hbm, 61, rfl⟩
abbrev main_c_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_9 : Ref sig .tc := ⟨.hbm, 66, rfl⟩
abbrev main_v51 : Ref sig .tc := ⟨.hbm, 67, rfl⟩
abbrev main_v52 : Ref sig .tc := ⟨.hbm, 68, rfl⟩
abbrev main_c_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_c_11 : Ref sig .tc := ⟨.hbm, 84, rfl⟩
abbrev main_v67 : Ref sig .tc := ⟨.hbm, 85, rfl⟩
abbrev main_v68 : Ref sig .tc := ⟨.hbm, 86, rfl⟩
abbrev main_c_12 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_13 : Ref sig .tc := ⟨.hbm, 91, rfl⟩
abbrev main_v72 : Ref sig .tc := ⟨.hbm, 92, rfl⟩
abbrev main_v73 : Ref sig .tc := ⟨.hbm, 93, rfl⟩
abbrev main_c_14 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_c_15 : Ref sig .tc := ⟨.hbm, 109, rfl⟩
abbrev main_v88 : Ref sig .tc := ⟨.hbm, 110, rfl⟩
abbrev main_v89 : Ref sig .tc := ⟨.hbm, 111, rfl⟩
abbrev main_c_16 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_c_17 : Ref sig .tc := ⟨.hbm, 116, rfl⟩
abbrev main_v93 : Ref sig .tc := ⟨.hbm, 117, rfl⟩
abbrev main_v94 : Ref sig .tc := ⟨.hbm, 118, rfl⟩
abbrev main_c_18 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_c_19 : Ref sig .tc := ⟨.hbm, 134, rfl⟩
abbrev main_v109 : Ref sig .tc := ⟨.hbm, 135, rfl⟩
abbrev main_v110 : Ref sig .tc := ⟨.hbm, 136, rfl⟩
abbrev main_c_20 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_c_21 : Ref sig .tc := ⟨.hbm, 141, rfl⟩
abbrev main_v114 : Ref sig .tc := ⟨.hbm, 142, rfl⟩
abbrev main_v115 : Ref sig .tc := ⟨.hbm, 143, rfl⟩
abbrev main_c_22 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_c_23 : Ref sig .tc := ⟨.hbm, 159, rfl⟩
abbrev main_v130 : Ref sig .tc := ⟨.hbm, 160, rfl⟩
abbrev main_v131 : Ref sig .tc := ⟨.hbm, 161, rfl⟩
abbrev main_c_24 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_c_25 : Ref sig .tc := ⟨.hbm, 166, rfl⟩
abbrev main_v135 : Ref sig .tc := ⟨.hbm, 167, rfl⟩
abbrev main_v136 : Ref sig .tc := ⟨.hbm, 168, rfl⟩
abbrev main_c_26 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_c_27 : Ref sig .tc := ⟨.hbm, 184, rfl⟩
abbrev main_v151 : Ref sig .tc := ⟨.hbm, 185, rfl⟩
abbrev main_v152 : Ref sig .tc := ⟨.hbm, 186, rfl⟩
abbrev main_c_28 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_c_29 : Ref sig .tc := ⟨.hbm, 191, rfl⟩
abbrev main_v156 : Ref sig .tc := ⟨.hbm, 192, rfl⟩
abbrev main_v157 : Ref sig .tc := ⟨.hbm, 193, rfl⟩
abbrev main_c_30 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩

abbrev nD : Nat := 1
abbrev τ : Topo := Topo.v7x

variable {F : FTy → Type} [FloatOps F]
-- ==== Proof.Kernel.Text.lean ====
/- The kernel's body, written once over: the same operations as the printed function, with the
   eight bit fields and the thirty-two row groups of the epilogue each stated once for a symbolic
   number. `body_eq` says that the two programs are one. -/
module

public import proofs.«01_k».proof.Proof.Gen.Kernel

@[expose] public section

noncomputable section

namespace Cert.Kernel.Hand

open Idealize.ShloMosaic Idealize.SL.Sem
open Cert.Kernel.Facts₀ Cert.Kernel.Facts

variable {F : FTy → Type} [FloatOps F]

/-! ## Rectangles at symbolic offsets -/

theorem inb_o (m t : ℕ) (hm : m < 32) (ht : t < 8) : ∀ a, (![8 * m, 128 * t] : Fin 2 → Nat) a + S8x128.size a ≤ S256x1024.size a := by
  intro a
  fin_cases a
  · show 8 * m + 8 ≤ 256; omega
  · show 128 * t + 128 ≤ 1024; omega

theorem inb_s (t : ℕ) (ht : t < 8) : ∀ a, (![0, 128 * t] : Fin 2 → Nat) a + S1x128.size a ≤ S1x1024.size a := by
  intro a
  fin_cases a
  · show 0 + 1 ≤ 1; omega
  · show 128 * t + 128 ≤ 1024; omega

theorem inb_w (j : ℕ) (hj : j < 8) : ∀ a, (![0, 128 * j] : Fin 2 → Nat) a + S1280x128.size a ≤ S1280x1024.size a := by
  intro a
  fin_cases a
  · show 0 + 1280 ≤ 1280; omega
  · show 128 * j + 128 ≤ 1024; omega

theorem packed_o (m t : ℕ) (hm : m < 32) (ht : t < 8) :
    (Rect.unit (s := S256x1024) ![8 * m, 128 * t] S8x128.size (inb_o m t hm ht)).PackedRows (EltTy.packing .bf16) :=
  .inr ⟨le_refl 2, rfl, .inl ⟨show 2 ∣ 8 * m from ⟨4 * m, by omega⟩, show 2 ∣ 8 from ⟨4, rfl⟩⟩⟩

theorem packed_w (j : ℕ) (hj : j < 8) :
    (Rect.unit (s := S1280x1024) ![0, 128 * j] S1280x128.size (inb_w j hj)).PackedRows (EltTy.packing .bf16) :=
  .inr ⟨le_refl 2, rfl, .inl ⟨show 2 ∣ 0 from ⟨0, rfl⟩, show 2 ∣ 1280 from ⟨640, rfl⟩⟩⟩

/-! ## The decode of one bit field -/

/-- Two rows of packed words to one row of half words: the low halves (fields 0 to 3). -/
def loW (e o : IVec S640x128 32) : IVec S640x128 32 :=
  ori (andi e (broadcast S640x128 65535#32)) (shli o (broadcast S640x128 16#32))

/-- The high halves (fields 4 to 7). -/
def hiW (e o : IVec S640x128 32) : IVec S640x128 32 :=
  ori (shrui e (broadcast S640x128 16#32)) (andi o (broadcast S640x128 4294901760#32))

/-- The weights of one field: the field at `sh` of each half word of `src`, less the zero point at `zsh`. -/
def fieldW (src : IVec S640x128 32) (zw : IVec S1x128 32) (sh zsh : BitVec 32) : FVec F S1280x128 .bf16 :=
  shapeCast S1280x128 (subf
    (bitcastToFloat .bf16 (bitcast S1280x128 16
      (ori (andi (shrui src (broadcast S640x128 sh)) (broadcast S640x128 983055#32)) (broadcast S640x128 1124090624#32))
      bitcasts_S640x128_w32_S1280x128_w16))
    (broadcastTo S1280x128 (truncf .bf16 (sitofp .f32
      (addi (andi (shrui (shapeCast S1x128 zw shapeCasts_S1x128_S1x128) (broadcast S1x128 zsh)) (broadcast S1x128 15#32)) (broadcast S1x128 128#32)))
      bitsLt_bf16_f32) broadcasts_S1x128_S1280x128)) shapeCasts_S1280x128_S1280x128

/-! ## The epilogue's index words -/

/-- The lane number. -/
def laneV : IVec S8x128 32 := iota .tc S8x128 32 [1] iota_S8x128_d1_w32

/-- The remainder by 8, rounded down. -/
def remV (x : IVec S8x128 32) : IVec S8x128 32 :=
  let d : BitVec 32 := Scalar.select (Scalar.cmpi .eq 8#32 0#32) 1#32 8#32
  let r : IVec S8x128 32 := remsi x (broadcast S8x128 d)
  select (andi (xori (cmpi .slt r (broadcast S8x128 0#32))
      (broadcastTo S8x128 (broadcast S8x128 (Scalar.cmpi .slt d 0#32)) broadcasts_S8x128_S8x128))
    (cmpi .ne r (broadcast S8x128 0#32)))
    (addi r (broadcast S8x128 d)) r

/-- The quotient by 8, rounded down. -/
def divV (x : IVec S8x128 32) : IVec S8x128 32 :=
  let q : IVec S8x128 32 := divsi x (broadcast S8x128 8#32)
  select (andi
      (cmpi .ne (subi (extui 32 (cmpi .sgt x (broadcast S8x128 0#32)) natLt_1_32) (extui 32 (cmpi .slt x (broadcast S8x128 0#32)) natLt_1_32))
        (broadcast S8x128 (Scalar.subi (Scalar.extui (Scalar.cmpi .sgt 8#32 0#32)) (Scalar.extui (Scalar.cmpi .slt 8#32 0#32)))))
      (cmpi .ne (remsi x (broadcast S8x128 8#32)) (broadcast S8x128 0#32)))
    (subi q (broadcast S8x128 1#32)) q

/-- A gather's index: a negative one counts from the end. -/
def wrapV (x : IVec S8x128 32) : IVec S8x128 32 :=
  shapeCast S8x128 (shapeCast S8x128x1
    (select (cmpi .slt x (broadcast S8x128 0#32)) (addi x (broadcast S8x128 128#32)) x)
    shapeCasts_S8x128_S8x128x1) shapeCasts_S8x128x1_S8x128

/-- The lane's residue modulo 8. -/
def resV : IVec S8x128 32 := remV laneV

/-- The first gather's lanes for field `p`. -/
def idxA (p : BitVec 32) : IVec S8x128 32 :=
  wrapV (addi (muli (broadcast S8x128 16#32) (remV (addi (subi resV (broadcast S8x128 p)) (broadcast S8x128 8#32)))) (divV laneV))

/-- The second gather's lanes for column group `t`. -/
def idxB (t : BitVec 32) : IVec S8x128 32 :=
  wrapV (addi (muli (broadcast S8x128 8#32) (divV laneV)) (remV (addi (broadcast S8x128 t) laneV)))

/-- Whether the residue has the bit `b`. -/
def bitV (b : BitVec 32) : IVec S8x128 1 := cmpi .ne (andi resV (broadcast S8x128 b)) (broadcast S8x128 0#32)

/-- Rotate the eight vectors by `b` in the lanes whose residue has the bit. -/
def rotV (b : BitVec 32) (k : Fin 8) (f : Fin 8 → FVec F S8x128 .f32) (u : Fin 8) : FVec F S8x128 .f32 :=
  select (bitV b) (f (u + k)) (f u)

/-- The eight vectors of a row group after the first gather and the three rotations. -/
def midV (a0 a1 a2 a3 a4 a5 a6 a7 : FVec F S8x128 .f32) : Fin 8 → FVec F S8x128 .f32 :=
  rotV 4#32 4 (rotV 2#32 2 (rotV 1#32 1 (fun
    | 0 => dynamicGather 1 a0 (idxA 0#32)
    | 1 => dynamicGather 1 a1 (idxA 1#32)
    | 2 => dynamicGather 1 a2 (idxA 2#32)
    | 3 => dynamicGather 1 a3 (idxA 3#32)
    | 4 => dynamicGather 1 a4 (idxA 4#32)
    | 5 => dynamicGather 1 a5 (idxA 5#32)
    | 6 => dynamicGather 1 a6 (idxA 6#32)
    | 7 => dynamicGather 1 a7 (idxA 7#32))))

/-- What one store of the epilogue writes: the second gather, times the scales. -/
def outV (f : FVec F S8x128 .f32) (t : BitVec 32) (s : FVec F S1x128 .f32) : FVec F S8x128 .bf16 :=
  truncf .bf16 (mulf (dynamicGather 1 f (idxB t))
    (broadcastTo S8x128 (shapeCast S1x128 s shapeCasts_S1x128_S1x128) broadcasts_S1x128_S8x128)) bitsLt_bf16_f32

/-! ## The program -/

section Program

variable (arg2 : Memref sig .tc .vmem S256x1280 .bf16) (arg3 : Memref sig .tc .vmem S1280x128 .i32) (arg4 : Memref sig .tc .vmem S1x128 .i32)
  (arg5 : Memref sig .tc .vmem S1x1024 .f32) (arg6 : Memref sig .tc .vmem S256x1024 .bf16) (harg6 : arg6.IsWhole)
  (arg7 : Memref sig .tc .vmem S1280x1024 .bf16) (harg7 : arg7.IsWhole) (arg8 : Memref sig .tc .vmem S256x1024 .f32)

/-- Load field `t`'s columns of row group `m` of the accumulator. -/
def loadA (m t : ℕ) (hm : m < 32) (ht : t < 8) : Prog (TpuEff nD τ sig (Elt F) Λ₀ .tc) (Vec F S8x128 .f32) :=
  Prog.lift (.load arg8 (Rect.unit (s := S256x1024) ![8 * m, 128 * t] S8x128.size (inb_o m t hm ht)).toLoadRect (View.loadsAt_vmem h_S8x128))

/-- Write column group `t` of row group `m` of the result. -/
def storeO (m t : ℕ) (hm : m < 32) (ht : t < 8) (f : FVec F S8x128 .f32) (tw : BitVec 32) : Prog (TpuEff nD τ sig (Elt F) Λ₀ .tc) PUnit := do
  let s : Vec F S1x128 .f32 ← Prog.lift (.load arg5 (Rect.unit (s := S1x1024) ![0, 128 * t] S1x128.size (inb_s t ht)).toLoadRect (View.loadsAt_vmem h_S1x128))
  let _ : Vec F S8x128 .bf16 ← Prog.lift (.load arg6 (Rect.unit (s := S256x1024) ![8 * m, 128 * t] S8x128.size (inb_o m t hm ht)).toLoadRect (View.loadsAt_vmem h_S8x128))
  Prog.lift (.store arg6 (Rect.unit (s := S256x1024) ![8 * m, 128 * t] S8x128.size (inb_o m t hm ht)) (outV f tw s) Finset.univ
    (View.stores_vmem h_S8x128 (harg6.storeExact_slice rfl _ (packed_o m t hm ht)) (fun _ => rfl)) (.inl rfl))

/-- One row group of the epilogue. -/
def groupP (m : ℕ) (hm : m < 32) : Prog (TpuEff nD τ sig (Elt F) Λ₀ .tc) PUnit := do
  let a0 : Vec F S8x128 .f32 ← loadA arg8 m 0 hm (by decide)
  let a1 : Vec F S8x128 .f32 ← loadA arg8 m 4 hm (by decide)
  let a2 : Vec F S8x128 .f32 ← loadA arg8 m 1 hm (by decide)
  let a3 : Vec F S8x128 .f32 ← loadA arg8 m 5 hm (by decide)
  let a4 : Vec F S8x128 .f32 ← loadA arg8 m 2 hm (by decide)
  let a5 : Vec F S8x128 .f32 ← loadA arg8 m 6 hm (by decide)
  let a6 : Vec F S8x128 .f32 ← loadA arg8 m 3 hm (by decide)
  let a7 : Vec F S8x128 .f32 ← loadA arg8 m 7 hm (by decide)
  storeO arg5 arg6 harg6 m 0 hm (by decide) (midV a0 a1 a2 a3 a4 a5 a6 a7 0) 0#32
  storeO arg5 arg6 harg6 m 1 hm (by decide) (midV a0 a1 a2 a3 a4 a5 a6 a7 7) 1#32
  storeO arg5 arg6 harg6 m 2 hm (by decide) (midV a0 a1 a2 a3 a4 a5 a6 a7 6) 2#32
  storeO arg5 arg6 harg6 m 3 hm (by decide) (midV a0 a1 a2 a3 a4 a5 a6 a7 5) 3#32
  storeO arg5 arg6 harg6 m 4 hm (by decide) (midV a0 a1 a2 a3 a4 a5 a6 a7 4) 4#32
  storeO arg5 arg6 harg6 m 5 hm (by decide) (midV a0 a1 a2 a3 a4 a5 a6 a7 3) 5#32
  storeO arg5 arg6 harg6 m 6 hm (by decide) (midV a0 a1 a2 a3 a4 a5 a6 a7 2) 6#32
  storeO arg5 arg6 harg6 m 7 hm (by decide) (midV a0 a1 a2 a3 a4 a5 a6 a7 1) 7#32

/-- The row groups from `m` on, `n` of them. -/
def groupsP : (n m : ℕ) → m + n ≤ 32 → Prog (TpuEff nD τ sig (Elt F) Λ₀ .tc) PUnit
  | 0, _, _ => pure ⟨⟩
  | n + 1, m, h => do
    groupP arg5 arg6 harg6 arg8 m (by omega)
    groupsP n (m + 1) (by omega)

/-- Write the weights of field `j`. -/
def storeW (j : ℕ) (hj : j < 8) (w : FVec F S1280x128 .bf16) : Prog (TpuEff nD τ sig (Elt F) Λ₀ .tc) PUnit := do
  let _ : Vec F S1280x128 .bf16 ← Prog.lift (.load arg7 (Rect.unit (s := S1280x1024) ![0, 128 * j] S1280x128.size (inb_w j hj)).toLoadRect (View.loadsAt_vmem h_S1280x128))
  Prog.lift (.store arg7 (Rect.unit (s := S1280x1024) ![0, 128 * j] S1280x128.size (inb_w j hj)) w Finset.univ
    (View.stores_vmem h_S1280x128 (harg7.storeExact_slice rfl _ (packed_w j hj)) (fun _ => rfl)) (.inl rfl))

/-- Write a whole accumulator. -/
def storeA (a : FVec F S256x1024 .f32) : Prog (TpuEff nD τ sig (Elt F) Λ₀ .tc) PUnit := do
  let _ : Vec F S256x1024 .f32 ← Prog.lift (.load arg8 (Rect.unit (s := S256x1024) ![0, 0] S256x1024.size inb_S256x1024_S256x1024_0_0).toLoadRect (View.loadsAt_vmem h_S256x1024))
  Prog.lift (.store arg8 (Rect.unit (s := S256x1024) ![0, 0] S256x1024.size inb_S256x1024_S256x1024_0_0) (shapeCast S256x1024 a shapeCasts_S256x1024_S256x1024)
    Finset.univ (View.stores_vmem_bits_univ h_S256x1024 rfl) (.inl rfl))

/-- The accumulator's next contents. -/
def nextA (a : FVec F S256x1024 .f32) (x : FVec F S256x1280 .bf16) (w : FVec F S1280x1024 .bf16) : FVec F S256x1024 .f32 :=
  addf a (matmul dot_S256x1280_S1280x1024_S256x1024_1_0_0_1_n_n none (shapeCast S256x1280 x shapeCasts_S256x1280_S256x1280) w
    (constant S256x1024 .f32 0x00000000#32))

/-- Whether the point is the first of its reduction. -/
def firstW (i : grid0.Coords) : BitVec 1 :=
  Scalar.cmpi .ne (Scalar.extui (Scalar.cmpi .eq (BitVec.ofNat 32 (i 1).val) 0#32) : BitVec 32) 0#32

/-- Decode the block's eight fields. -/
def decodeP : Prog (TpuEff nD τ sig (Elt F) Λ₀ .tc) PUnit := do
  let e : Vec F S640x128 .i32 ← Prog.lift (.load arg3 (⟨![0, 0], S640x128.size, ![2, 1], inb_S1280x128_S640x128_0_0_s_2_1⟩ : LoadRect S1280x128) (View.loadsAt_vmem h_S640x128))
  let o : Vec F S640x128 .i32 ← Prog.lift (.load arg3 (⟨![1, 0], S640x128.size, ![2, 1], inb_S1280x128_S640x128_1_0_s_2_1⟩ : LoadRect S1280x128) (View.loadsAt_vmem h_S640x128))
  let z : Vec F S1x128 .i32 ← Prog.lift (.load arg4 (Rect.unit (s := S1x128) ![0, 0] S1x128.size inb_S1x128_S1x128_0_0).toLoadRect (View.loadsAt_vmem h_S1x128))
  storeW arg7 harg7 0 (by decide) (fieldW (loW e o) z 0#32 0#32)
  storeW arg7 harg7 1 (by decide) (fieldW (loW e o) z 4#32 4#32)
  storeW arg7 harg7 2 (by decide) (fieldW (loW e o) z 8#32 8#32)
  storeW arg7 harg7 3 (by decide) (fieldW (loW e o) z 12#32 12#32)
  storeW arg7 harg7 4 (by decide) (fieldW (hiW e o) z 0#32 16#32)
  storeW arg7 harg7 5 (by decide) (fieldW (hiW e o) z 4#32 20#32)
  storeW arg7 harg7 6 (by decide) (fieldW (hiW e o) z 8#32 24#32)
  storeW arg7 harg7 7 (by decide) (fieldW (hiW e o) z 12#32 28#32)

/-- The body: decode; clear the accumulator at the reduction's first point; accumulate; at its last, permute and scale. -/
def bodyP (i : grid0.Coords) : Prog (TpuEff nD τ sig (Elt F) Λ₀ .tc) PUnit := do
  decodeP arg3 arg4 arg7 harg7
  if _h : firstW i = 1#1 then do
    storeA arg8 (broadcast S256x1024 (Scalar.ofBits .f32 0x00000000#32))
    pure ⟨⟩
  else do
    pure ⟨⟩
  let a : Vec F S256x1024 .f32 ← Prog.lift (.load arg8 (Rect.unit (s := S256x1024) ![0, 0] S256x1024.size inb_S256x1024_S256x1024_0_0).toLoadRect (View.loadsAt_vmem h_S256x1024))
  let x : Vec F S256x1280 .bf16 ← Prog.lift (.load arg2 (Rect.unit (s := S256x1280) ![0, 0] S256x1280.size inb_S256x1280_S256x1280_0_0).toLoadRect (View.loadsAt_vmem h_S256x1280))
  let w : Vec F S1280x1024 .bf16 ← Prog.lift (.load arg7 (Rect.unit (s := S1280x1024) ![0, 0] S1280x1024.size inb_S1280x1024_S1280x1024_0_0).toLoadRect (View.loadsAt_vmem h_S1280x1024))
  storeA arg8 (nextA a x w)
  if _h : k0_cond2 i = 1#1 then do
    groupsP arg5 arg6 harg6 arg8 32 0 (by decide)
  else do
    pure ⟨⟩
  pure ⟨⟩

end Program

end Cert.Kernel.Hand

end
-- ==== Proof.Kernel.Triples.lean ====
/- What the body of `Text.lean` does to the buffers it is given, whatever they hold: one triple for
   each of its parts, and one for the whole. -/
module

public import proofs.«01_k».proof.Proof.Kernel.Text
public import proofs.«01_k».proof.Proof.Gen.Kernel.Launch
public import Idealize.ShloMosaic.Lib.Tactic
public import Idealize.ShloMosaic.Lib.VecWindow
public import Idealize.ShloMosaic.Lib.Pipeline.TableIdle

@[expose] public section

noncomputable section

namespace Cert.Kernel.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Facts₀ Cert.Kernel.Facts

variable {F : FTy → Type} [FloatOps F]

local notation "𝕄" => MT nD τ sig Unit (Elt F) ℕ (UR sig nD τ) ℕ

/-- The kernel's variants: none. -/
abbrev 𝒱₀ : Variants := Variants.none

/-! ## What the parts leave -/

/-- Column group `t` of row group `m` of an accumulator. -/
def winA (A : Vec F S256x1024 .f32) (m t : ℕ) (hm : m < 32) (ht : t < 8) : Vec F S8x128 .f32 :=
  VecWindow.window A ![8 * m, 128 * t] S8x128.size (inb_o m t hm ht)

/-- Column group `t` of a row of scales. -/
def winS (s : Vec F S1x1024 .f32) (t : ℕ) (ht : t < 8) : Vec F S1x128 .f32 :=
  VecWindow.window s ![0, 128 * t] S1x128.size (inb_s t ht)

/-- The eight rotated vectors of row group `m`. -/
def midG (A : Vec F S256x1024 .f32) (m : ℕ) (hm : m < 32) : Fin 8 → FVec F S8x128 .f32 :=
  midV (winA A m 0 hm (by decide)) (winA A m 4 hm (by decide)) (winA A m 1 hm (by decide)) (winA A m 5 hm (by decide))
    (winA A m 2 hm (by decide)) (winA A m 6 hm (by decide)) (winA A m 3 hm (by decide)) (winA A m 7 hm (by decide))

/-- A result with one column group of one row group replaced. -/
def putO (m t : ℕ) (w : FVec F S8x128 .bf16) (o : Vec F S256x1024 .bf16) : Vec F S256x1024 .bf16 :=
  VecWindow.put o ![8 * m, 128 * t] S8x128.size w

/-- A result after row group `m`. -/
def groupO (A : Vec F S256x1024 .f32) (s : Vec F S1x1024 .f32) (m : ℕ) (hm : m < 32) (o : Vec F S256x1024 .bf16) : Vec F S256x1024 .bf16 :=
  putO m 7 (outV (midG A m hm 1) 7#32 (winS s 7 (by decide)))
    (putO m 6 (outV (midG A m hm 2) 6#32 (winS s 6 (by decide)))
    (putO m 5 (outV (midG A m hm 3) 5#32 (winS s 5 (by decide)))
    (putO m 4 (outV (midG A m hm 4) 4#32 (winS s 4 (by decide)))
    (putO m 3 (outV (midG A m hm 5) 3#32 (winS s 3 (by decide)))
    (putO m 2 (outV (midG A m hm 6) 2#32 (winS s 2 (by decide)))
    (putO m 1 (outV (midG A m hm 7) 1#32 (winS s 1 (by decide)))
    (putO m 0 (outV (midG A m hm 0) 0#32 (winS s 0 (by decide))) o)))))))

/-- A result after the row groups from `m` on, `n` of them. -/
def groupsO (A : Vec F S256x1024 .f32) (s : Vec F S1x1024 .f32) : (n m : ℕ) → m + n ≤ 32 → Vec F S256x1024 .bf16 → Vec F S256x1024 .bf16
  | 0, _, _, o => o
  | n + 1, m, h, o => groupsO A s n (m + 1) (by omega) (groupO A s m (by omega) o)

/-- Weights with those of one field replaced. -/
def putW (j : ℕ) (w : FVec F S1280x128 .bf16) (o : Vec F S1280x1024 .bf16) : Vec F S1280x1024 .bf16 :=
  VecWindow.put o ![0, 128 * j] S1280x128.size w

/-- The even rows of a block of packed words, and the odd ones. -/
def evenR (q : Vec F S1280x128 .i32) : IVec S640x128 32 :=
  fun y => q ((⟨![0, 0], S640x128.size, ![2, 1], inb_S1280x128_S640x128_0_0_s_2_1⟩ : LoadRect S1280x128).idx y)
def oddR (q : Vec F S1280x128 .i32) : IVec S640x128 32 :=
  fun y => q ((⟨![1, 0], S640x128.size, ![2, 1], inb_S1280x128_S640x128_1_0_s_2_1⟩ : LoadRect S1280x128).idx y)

/-- The decoded weights. -/
def decodeW (q : Vec F S1280x128 .i32) (z : Vec F S1x128 .i32) (o : Vec F S1280x1024 .bf16) : Vec F S1280x1024 .bf16 :=
  putW 7 (fieldW (hiW (evenR q) (oddR q)) z 12#32 28#32)
    (putW 6 (fieldW (hiW (evenR q) (oddR q)) z 8#32 24#32)
    (putW 5 (fieldW (hiW (evenR q) (oddR q)) z 4#32 20#32)
    (putW 4 (fieldW (hiW (evenR q) (oddR q)) z 0#32 16#32)
    (putW 3 (fieldW (loW (evenR q) (oddR q)) z 12#32 12#32)
    (putW 2 (fieldW (loW (evenR q) (oddR q)) z 8#32 8#32)
    (putW 1 (fieldW (loW (evenR q) (oddR q)) z 4#32 4#32)
    (putW 0 (fieldW (loW (evenR q) (oddR q)) z 0#32 0#32) o)))))))

/-- The accumulator a point starts from. -/
def startA (i : grid0.Coords) (a : Vec F S256x1024 .f32) : Vec F S256x1024 .f32 :=
  if firstW i = 1#1 then shapeCast S256x1024 (broadcast S256x1024 (Scalar.ofBits .f32 0x00000000#32)) shapeCasts_S256x1024_S256x1024 else a

/-- The accumulator a point leaves. -/
def stepA (i : grid0.Coords) (a : Vec F S256x1024 .f32) (x : Vec F S256x1280 .bf16) (w : Vec F S1280x1024 .bf16) : Vec F S256x1024 .f32 :=
  shapeCast S256x1024 (nextA (startA i a) x w) shapeCasts_S256x1024_S256x1024

/-- The result's block a point leaves. -/
def stepO (i : grid0.Coords) (A : Vec F S256x1024 .f32) (s : Vec F S1x1024 .f32) (o : Vec F S256x1024 .bf16) : Vec F S256x1024 .bf16 :=
  if k0_cond2 i = 1#1 then groupsO A s 32 0 (by decide) o else o

/-! ## One access, of a memref held by what it reads -/

section Access

variable (c : Dev nD) (E : Set ℕ)

theorem own_load {s : Shape} {e : EltTy} {α : Type} (M : Memref sig .tc .vmem s e) (r : LoadRect s) (hl : M.view.LoadsAt r) (X : s.Idx → Elt F e)
    (k : (r.shape.Idx → Elt F e) → Prog (TpuEff nD τ sig (Elt F) Λ₀ .tc) α) (Q : α → sProp 𝕄) :
    (owns (c : Thread nD τ) M fullShare X : sProp 𝕄)
      ⊢ iprop((owns (c : Thread nD τ) M fullShare X -∗ wp frame (wpE (defs₀ (F := F)) 𝒱₀ c none) E (k (fun y => X (r.idx y))) Q)
        -∗ wp frame (wpE (defs₀ (F := F)) 𝒱₀ c none) E (.op (.load M r hl) k) Q) := by
  unfold owns
  iintro ⟨%f, %hf, H⟩ Hk
  have e0 : M.view.readAt (Elt F) r f = fun y => X (r.idx y) := by
    funext y; exact congrFun hf (r.idx y)
  iapply (wp_load (defs := defs₀ (F := F)) 𝒱₀ (c : Thread nD τ) none E (m := M) (r := r) (hl := hl) (S := M.view.set) (f := f) (View.setOn_subset_set _ _)) $$ H
  iintro H
  rw [e0]
  iapply Hk
  iexists f; isplitr; · ipureintro; exact hf
  iexact H

theorem own_store {s : Shape} {e : EltTy} {α : Type} (M : Memref sig .tc .vmem s e) (off size : Fin s.rank → ℕ) (inb : ∀ a, off a + size a ≤ s.size a)
    (w : (Rect.unit off size inb).shape.Idx → Elt F e)
    (hx : (M.access (Rect.unit off size inb)).Stores Finset.univ) (hm) (X : s.Idx → Elt F e)
    (k : PUnit → Prog (TpuEff nD τ sig (Elt F) Λ₀ .tc) α) (Q : α → sProp 𝕄) :
    (owns (c : Thread nD τ) M fullShare X : sProp 𝕄)
      ⊢ iprop((owns (c : Thread nD τ) M fullShare (VecWindow.put X off size w) -∗ wp frame (wpE (defs₀ (F := F)) 𝒱₀ c none) E (k ⟨⟩) Q)
        -∗ wp frame (wpE (defs₀ (F := F)) 𝒱₀ c none) E (.op (.store M (Rect.unit off size inb) w Finset.univ hx hm) k) Q) := by
  unfold owns
  iintro ⟨%f, %hf, H⟩ Hk
  have hw : M.view.read (Elt F) ((M.access (Rect.unit off size inb)).write (Elt F) f w Finset.univ) = VecWindow.put X off size w := by
    subst hf
    exact View.read_writes_cons_put M.view f inb w [] rfl
  iapply (wp_store (defs := defs₀ (F := F)) 𝒱₀ (c : Thread nD τ) none E (m := M) (r := Rect.unit off size inb) (hx := hx) (S := M.view.set) (f := f) ?hS) $$ H
  case hS => exact (View.setOn_subset_set _ _).trans (by rw [View.set_slice]; exact View.setOn_subset_set _ _)
  iintro H
  iapply Hk
  iexists _; isplitr; · ipureintro; exact hw
  iexact H

/-! ## The parts -/

/-- A window of eight rows of the accumulator. -/
theorem tr_loadA {α : Type} (arg8 : Memref sig .tc .vmem S256x1024 .f32) (m t : ℕ) (hm : m < 32) (ht : t < 8) (A : Vec F S256x1024 .f32)
    (k : Vec F S8x128 .f32 → Prog (TpuEff nD τ sig (Elt F) Λ₀ .tc) α) (Q : α → sProp 𝕄) :
    (owns (c : Thread nD τ) arg8 fullShare A : sProp 𝕄)
      ⊢ iprop((owns (c : Thread nD τ) arg8 fullShare A -∗ wp frame (wpE (defs₀ (F := F)) 𝒱₀ c none) E (k (winA A m t hm ht)) Q)
        -∗ wp frame (wpE (defs₀ (F := F)) 𝒱₀ c none) E (loadA arg8 m t hm ht >>= k) Q) := by
  unfold loadA
  simp only [Prog.lift, Prog.bind_op, Prog.bind_ret]
  iintro H Hk
  iapply (own_load c E arg8 _ _ A _ Q) $$ H
  iexact Hk

theorem tr_storeO {α : Type} (arg5 : Memref sig .tc .vmem S1x1024 .f32) (arg6 : Memref sig .tc .vmem S256x1024 .bf16) (harg6 : arg6.IsWhole)
    (m t : ℕ) (hm : m < 32) (ht : t < 8) (f : FVec F S8x128 .f32) (tw : BitVec 32) (s : Vec F S1x1024 .f32) (o : Vec F S256x1024 .bf16)
    (k : PUnit → Prog (TpuEff nD τ sig (Elt F) Λ₀ .tc) α) (Q : α → sProp 𝕄) :
    iprop(owns (c : Thread nD τ) arg5 fullShare s ∗ owns (c : Thread nD τ) arg6 fullShare o : sProp 𝕄)
      ⊢ iprop((owns (c : Thread nD τ) arg5 fullShare s -∗ owns (c : Thread nD τ) arg6 fullShare (putO m t (outV f tw (winS s t ht)) o)
          -∗ wp frame (wpE (defs₀ (F := F)) 𝒱₀ c none) E (k ⟨⟩) Q)
        -∗ wp frame (wpE (defs₀ (F := F)) 𝒱₀ c none) E (storeO arg5 arg6 harg6 m t hm ht f tw >>= k) Q) := by
  unfold storeO
  simp only [Prog.lift, Prog.bind_op, Prog.bind_ret]
  iintro ⟨H5, H6⟩ Hk
  iapply (own_load c E arg5 _ _ s _ Q) $$ H5
  iintro H5
  iapply (own_load c E arg6 _ _ o _ Q) $$ H6
  iintro H6
  iapply (own_store c E arg6 _ _ _ _ _ _ o _ Q) $$ H6
  iintro H6
  iapply Hk $$ H5
  iexact H6

/-- One row group. -/
theorem tr_groupP {α : Type} (arg5 : Memref sig .tc .vmem S1x1024 .f32) (arg6 : Memref sig .tc .vmem S256x1024 .bf16) (harg6 : arg6.IsWhole)
    (arg8 : Memref sig .tc .vmem S256x1024 .f32) (m : ℕ) (hm : m < 32) (A : Vec F S256x1024 .f32) (s : Vec F S1x1024 .f32) (o : Vec F S256x1024 .bf16)
    (k : PUnit → Prog (TpuEff nD τ sig (Elt F) Λ₀ .tc) α) (Q : α → sProp 𝕄) :
    iprop(owns (c : Thread nD τ) arg8 fullShare A ∗ owns (c : Thread nD τ) arg5 fullShare s ∗ owns (c : Thread nD τ) arg6 fullShare o : sProp 𝕄)
      ⊢ iprop((owns (c : Thread nD τ) arg8 fullShare A -∗ owns (c : Thread nD τ) arg5 fullShare s
            -∗ owns (c : Thread nD τ) arg6 fullShare (groupO A s m hm o)
          -∗ wp frame (wpE (defs₀ (F := F)) 𝒱₀ c none) E (k ⟨⟩) Q)
        -∗ wp frame (wpE (defs₀ (F := F)) 𝒱₀ c none) E (groupP arg5 arg6 harg6 arg8 m hm >>= k) Q) := by
  unfold groupP
  simp only [Prog.bind_assoc]
  iintro ⟨H8, H5, H6⟩ Hk
  iapply (tr_loadA c E arg8 _ _ _ _ A _ Q) $$ H8
  iintro H8
  iapply (tr_loadA c E arg8 _ _ _ _ A _ Q) $$ H8
  iintro H8
  iapply (tr_loadA c E arg8 _ _ _ _ A _ Q) $$ H8
  iintro H8
  iapply (tr_loadA c E arg8 _ _ _ _ A _ Q) $$ H8
  iintro H8
  iapply (tr_loadA c E arg8 _ _ _ _ A _ Q) $$ H8
  iintro H8
  iapply (tr_loadA c E arg8 _ _ _ _ A _ Q) $$ H8
  iintro H8
  iapply (tr_loadA c E arg8 _ _ _ _ A _ Q) $$ H8
  iintro H8
  iapply (tr_loadA c E arg8 _ _ _ _ A _ Q) $$ H8
  iintro H8
  iapply (tr_storeO c E arg5 arg6 harg6 _ _ _ _ _ _ s _ _ Q) $$ [H5 H6]
  · isplitl [H5]
    · iexact H5
    · iexact H6
  iintro H5 H6
  iapply (tr_storeO c E arg5 arg6 harg6 _ _ _ _ _ _ s _ _ Q) $$ [H5 H6]
  · isplitl [H5]
    · iexact H5
    · iexact H6
  iintro H5 H6
  iapply (tr_storeO c E arg5 arg6 harg6 _ _ _ _ _ _ s _ _ Q) $$ [H5 H6]
  · isplitl [H5]
    · iexact H5
    · iexact H6
  iintro H5 H6
  iapply (tr_storeO c E arg5 arg6 harg6 _ _ _ _ _ _ s _ _ Q) $$ [H5 H6]
  · isplitl [H5]
    · iexact H5
    · iexact H6
  iintro H5 H6
  iapply (tr_storeO c E arg5 arg6 harg6 _ _ _ _ _ _ s _ _ Q) $$ [H5 H6]
  · isplitl [H5]
    · iexact H5
    · iexact H6
  iintro H5 H6
  iapply (tr_storeO c E arg5 arg6 harg6 _ _ _ _ _ _ s _ _ Q) $$ [H5 H6]
  · isplitl [H5]
    · iexact H5
    · iexact H6
  iintro H5 H6
  iapply (tr_storeO c E arg5 arg6 harg6 _ _ _ _ _ _ s _ _ Q) $$ [H5 H6]
  · isplitl [H5]
    · iexact H5
    · iexact H6
  iintro H5 H6
  iapply (tr_storeO c E arg5 arg6 harg6 _ _ _ _ _ _ s _ _ Q) $$ [H5 H6]
  · isplitl [H5]
    · iexact H5
    · iexact H6
  iintro H5 H6
  iapply Hk $$ H8 H5
  iexact H6

/-- The row groups from `m` on. -/
theorem tr_groupsP {α : Type} (arg5 : Memref sig .tc .vmem S1x1024 .f32) (arg6 : Memref sig .tc .vmem S256x1024 .bf16) (harg6 : arg6.IsWhole)
    (arg8 : Memref sig .tc .vmem S256x1024 .f32) (A : Vec F S256x1024 .f32) (s : Vec F S1x1024 .f32)
    (k : PUnit → Prog (TpuEff nD τ sig (Elt F) Λ₀ .tc) α) (Q : α → sProp 𝕄) (n : ℕ) :
    ∀ (m : ℕ) (h : m + n ≤ 32) (o : Vec F S256x1024 .bf16),
    iprop(owns (c : Thread nD τ) arg8 fullShare A ∗ owns (c : Thread nD τ) arg5 fullShare s ∗ owns (c : Thread nD τ) arg6 fullShare o : sProp 𝕄)
      ⊢ iprop((owns (c : Thread nD τ) arg8 fullShare A -∗ owns (c : Thread nD τ) arg5 fullShare s
            -∗ owns (c : Thread nD τ) arg6 fullShare (groupsO A s n m h o)
          -∗ wp frame (wpE (defs₀ (F := F)) 𝒱₀ c none) E (k ⟨⟩) Q)
        -∗ wp frame (wpE (defs₀ (F := F)) 𝒱₀ c none) E (groupsP arg5 arg6 harg6 arg8 n m h >>= k) Q) := by
  induction n with
  | zero =>
    intro m h o
    iintro ⟨H8, H5, H6⟩ Hk
    iapply Hk $$ H8 H5
    iexact H6
  | succ n ih =>
    intro m h o
    unfold groupsP
    simp only [Prog.bind_assoc]
    iintro ⟨H8, H5, H6⟩ Hk
    iapply (tr_groupP c E arg5 arg6 harg6 arg8 m _ A s o _ Q) $$ [H8 H5 H6]
    · isplitl [H8]
      · iexact H8
      isplitl [H5]
      · iexact H5
      · iexact H6
    iintro H8 H5 H6
    iapply (ih (m + 1) _ _) $$ [H8 H5 H6]
    · isplitl [H8]
      · iexact H8
      isplitl [H5]
      · iexact H5
      · iexact H6
    iexact Hk

/-- The weights of one field. -/
theorem tr_storeW {α : Type} (arg7 : Memref sig .tc .vmem S1280x1024 .bf16) (harg7 : arg7.IsWhole) (j : ℕ) (hj : j < 8)
    (w : FVec F S1280x128 .bf16) (o : Vec F S1280x1024 .bf16)
    (k : PUnit → Prog (TpuEff nD τ sig (Elt F) Λ₀ .tc) α) (Q : α → sProp 𝕄) :
    (owns (c : Thread nD τ) arg7 fullShare o : sProp 𝕄)
      ⊢ iprop((owns (c : Thread nD τ) arg7 fullShare (putW j w o) -∗ wp frame (wpE (defs₀ (F := F)) 𝒱₀ c none) E (k ⟨⟩) Q)
        -∗ wp frame (wpE (defs₀ (F := F)) 𝒱₀ c none) E (storeW arg7 harg7 j hj w >>= k) Q) := by
  unfold storeW
  simp only [Prog.lift, Prog.bind_op, Prog.bind_ret]
  iintro H7 Hk
  iapply (own_load c E arg7 _ _ o _ Q) $$ H7
  iintro H7
  iapply (own_store c E arg7 _ _ _ _ _ _ o _ Q) $$ H7
  iexact Hk

/-- The decode. -/
theorem tr_decodeP {α : Type} (arg3 : Memref sig .tc .vmem S1280x128 .i32) (arg4 : Memref sig .tc .vmem S1x128 .i32)
    (arg7 : Memref sig .tc .vmem S1280x1024 .bf16) (harg7 : arg7.IsWhole)
    (q : Vec F S1280x128 .i32) (z : Vec F S1x128 .i32) (o : Vec F S1280x1024 .bf16)
    (k : PUnit → Prog (TpuEff nD τ sig (Elt F) Λ₀ .tc) α) (Q : α → sProp 𝕄) :
    iprop(owns (c : Thread nD τ) arg3 fullShare q ∗ owns (c : Thread nD τ) arg4 fullShare z ∗ owns (c : Thread nD τ) arg7 fullShare o : sProp 𝕄)
      ⊢ iprop((owns (c : Thread nD τ) arg3 fullShare q -∗ owns (c : Thread nD τ) arg4 fullShare z
            -∗ owns (c : Thread nD τ) arg7 fullShare (decodeW q z o)
          -∗ wp frame (wpE (defs₀ (F := F)) 𝒱₀ c none) E (k ⟨⟩) Q)
        -∗ wp frame (wpE (defs₀ (F := F)) 𝒱₀ c none) E (decodeP arg3 arg4 arg7 harg7 >>= k) Q) := by
  have hz : ∀ y : S1x128.Idx, (Rect.unit (s := S1x128) ![0, 0] S1x128.size Facts₀.inb_S1x128_S1x128_0_0).toLoadRect.idx y = y :=
    fun y => Rect.emb_unit_full (s := S1x128) _ y
  unfold decodeP
  simp only [Prog.bind_assoc]
  iintro ⟨H3, H4, H7⟩ Hk
  simp only [Prog.lift, Prog.bind_op, Prog.bind_ret]
  iapply (own_load c E arg3 _ _ q _ Q) $$ H3
  iintro H3
  iapply (own_load c E arg3 _ _ q _ Q) $$ H3
  iintro H3
  iapply (own_load c E arg4 _ _ z _ Q) $$ H4
  iintro H4
  simp only [hz]
  iapply (tr_storeW c E arg7 harg7 _ _ _ _ _ Q) $$ H7
  iintro H7
  iapply (tr_storeW c E arg7 harg7 _ _ _ _ _ Q) $$ H7
  iintro H7
  iapply (tr_storeW c E arg7 harg7 _ _ _ _ _ Q) $$ H7
  iintro H7
  iapply (tr_storeW c E arg7 harg7 _ _ _ _ _ Q) $$ H7
  iintro H7
  iapply (tr_storeW c E arg7 harg7 _ _ _ _ _ Q) $$ H7
  iintro H7
  iapply (tr_storeW c E arg7 harg7 _ _ _ _ _ Q) $$ H7
  iintro H7
  iapply (tr_storeW c E arg7 harg7 _ _ _ _ _ Q) $$ H7
  iintro H7
  iapply (tr_storeW c E arg7 harg7 _ _ _ _ _ Q) $$ H7
  iintro H7
  iapply Hk $$ H3 H4
  iexact H7

/-- A whole accumulator. -/
theorem tr_storeA {α : Type} (arg8 : Memref sig .tc .vmem S256x1024 .f32) (a A : Vec F S256x1024 .f32)
    (k : PUnit → Prog (TpuEff nD τ sig (Elt F) Λ₀ .tc) α) (Q : α → sProp 𝕄) :
    (owns (c : Thread nD τ) arg8 fullShare A : sProp 𝕄)
      ⊢ iprop((owns (c : Thread nD τ) arg8 fullShare (shapeCast S256x1024 a Facts₀.shapeCasts_S256x1024_S256x1024 : Vec F S256x1024 .f32)
            -∗ wp frame (wpE (defs₀ (F := F)) 𝒱₀ c none) E (k ⟨⟩) Q)
        -∗ wp frame (wpE (defs₀ (F := F)) 𝒱₀ c none) E (storeA arg8 a >>= k) Q) := by
  have hput : ∀ w : Vec F S256x1024 .f32, VecWindow.put A ![0, 0] S256x1024.size w = w := by
    intro w
    have h := VecWindow.window_put_same A ![0, 0] S256x1024.size Facts₀.inb_S256x1024_S256x1024_0_0 w
    funext y
    have h1 := congrFun h y
    unfold VecWindow.window at h1
    rwa [Rect.emb_unit_full (s := S256x1024)] at h1
  unfold storeA
  simp only [Prog.lift, Prog.bind_op, Prog.bind_ret]
  iintro H8 Hk
  iapply (own_load c E arg8 _ _ A _ Q) $$ H8
  iintro H8
  iapply (own_store c E arg8 _ _ _ _ _ _ A _ Q) $$ H8
  rw [hput]
  iexact Hk

/-- The body: weights decoded, the accumulator moved on, and at the reduction's last point the result's block written. -/
theorem tr_bodyP (arg2 : Memref sig .tc .vmem S256x1280 .bf16) (arg3 : Memref sig .tc .vmem S1280x128 .i32) (arg4 : Memref sig .tc .vmem S1x128 .i32)
    (arg5 : Memref sig .tc .vmem S1x1024 .f32) (arg6 : Memref sig .tc .vmem S256x1024 .bf16) (harg6 : arg6.IsWhole)
    (arg7 : Memref sig .tc .vmem S1280x1024 .bf16) (harg7 : arg7.IsWhole) (arg8 : Memref sig .tc .vmem S256x1024 .f32) (i : grid0.Coords)
    (x : Vec F S256x1280 .bf16) (q : Vec F S1280x128 .i32) (z : Vec F S1x128 .i32) (s : Vec F S1x1024 .f32) (o : Vec F S256x1024 .bf16)
    (w : Vec F S1280x1024 .bf16) (A : Vec F S256x1024 .f32) (Q : PUnit → sProp 𝕄) :
    iprop(owns (c : Thread nD τ) arg2 fullShare x ∗ owns (c : Thread nD τ) arg3 fullShare q ∗ owns (c : Thread nD τ) arg4 fullShare z
        ∗ owns (c : Thread nD τ) arg5 fullShare s ∗ owns (c : Thread nD τ) arg6 fullShare o
        ∗ owns (c : Thread nD τ) arg7 fullShare w ∗ owns (c : Thread nD τ) arg8 fullShare A : sProp 𝕄)
      ⊢ iprop((owns (c : Thread nD τ) arg2 fullShare x -∗ owns (c : Thread nD τ) arg3 fullShare q -∗ owns (c : Thread nD τ) arg4 fullShare z
            -∗ owns (c : Thread nD τ) arg5 fullShare s
            -∗ owns (c : Thread nD τ) arg6 fullShare (stepO i (stepA i A x (decodeW q z w)) s o)
            -∗ owns (c : Thread nD τ) arg7 fullShare (decodeW q z w)
            -∗ owns (c : Thread nD τ) arg8 fullShare (stepA i A x (decodeW q z w))
            -∗ Q ⟨⟩)
        -∗ wp frame (wpE (defs₀ (F := F)) 𝒱₀ c none) E (bodyP arg2 arg3 arg4 arg5 arg6 harg6 arg7 harg7 arg8 i) Q) := by
  have h2 : ∀ y : S256x1280.Idx, (Rect.unit (s := S256x1280) ![0, 0] S256x1280.size Facts₀.inb_S256x1280_S256x1280_0_0).toLoadRect.idx y = y :=
    fun y => Rect.emb_unit_full (s := S256x1280) _ y
  have h7 : ∀ y : S1280x1024.Idx, (Rect.unit (s := S1280x1024) ![0, 0] S1280x1024.size Facts₀.inb_S1280x1024_S1280x1024_0_0).toLoadRect.idx y = y :=
    fun y => Rect.emb_unit_full (s := S1280x1024) _ y
  have h8 : ∀ y : S256x1024.Idx, (Rect.unit (s := S256x1024) ![0, 0] S256x1024.size Facts₀.inb_S256x1024_S256x1024_0_0).toLoadRect.idx y = y :=
    fun y => Rect.emb_unit_full (s := S256x1024) _ y
  unfold bodyP
  iintro ⟨H2, H3, H4, H5, H6, H7, H8⟩ Hk
  iapply (tr_decodeP c E arg3 arg4 arg7 harg7 q z w _ Q) $$ [H3 H4 H7]
  · isplitl [H3]
    · iexact H3
    isplitl [H4]
    · iexact H4
    · iexact H7
  iintro H3 H4 H7
  -- from the accumulator `startA i A` on, whichever way it was come by
  have rest : iprop(owns (c : Thread nD τ) arg2 fullShare x ∗ owns (c : Thread nD τ) arg5 fullShare s ∗ owns (c : Thread nD τ) arg6 fullShare o
        ∗ owns (c : Thread nD τ) arg7 fullShare (decodeW q z w) ∗ owns (c : Thread nD τ) arg8 fullShare (startA i A) : sProp 𝕄)
      ⊢ iprop((owns (c : Thread nD τ) arg2 fullShare x -∗ owns (c : Thread nD τ) arg5 fullShare s
            -∗ owns (c : Thread nD τ) arg6 fullShare (stepO i (stepA i A x (decodeW q z w)) s o)
            -∗ owns (c : Thread nD τ) arg7 fullShare (decodeW q z w)
            -∗ owns (c : Thread nD τ) arg8 fullShare (stepA i A x (decodeW q z w))
            -∗ Q ⟨⟩)
        -∗ wp frame (wpE (defs₀ (F := F)) 𝒱₀ c none) E (do
          let a : Vec F S256x1024 .f32 ← Prog.lift (.load arg8 (Rect.unit (s := S256x1024) ![0, 0] S256x1024.size Facts₀.inb_S256x1024_S256x1024_0_0).toLoadRect (View.loadsAt_vmem h_S256x1024))
          let x : Vec F S256x1280 .bf16 ← Prog.lift (.load arg2 (Rect.unit (s := S256x1280) ![0, 0] S256x1280.size Facts₀.inb_S256x1280_S256x1280_0_0).toLoadRect (View.loadsAt_vmem h_S256x1280))
          let w : Vec F S1280x1024 .bf16 ← Prog.lift (.load arg7 (Rect.unit (s := S1280x1024) ![0, 0] S1280x1024.size Facts₀.inb_S1280x1024_S1280x1024_0_0).toLoadRect (View.loadsAt_vmem h_S1280x1024))
          storeA arg8 (nextA a x w)
          if _h : k0_cond2 i = 1#1 then do
            groupsP arg5 arg6 harg6 arg8 32 0 (by decide)
          else do
            pure ⟨⟩
          pure ⟨⟩) Q) := by
    iintro ⟨H2, H5, H6, H7, H8⟩ Hk
    simp only [Prog.lift, Prog.bind_op, Prog.bind_ret]
    iapply (own_load c E arg8 _ _ _ _ Q) $$ H8
    iintro H8
    iapply (own_load c E arg2 _ _ _ _ Q) $$ H2
    iintro H2
    iapply (own_load c E arg7 _ _ _ _ Q) $$ H7
    iintro H7
    simp only [h2, h7, h8]
    iapply (tr_storeA c E arg8 _ _ _ Q) $$ H8
    iintro H8
    by_cases hc : k0_cond2 i = 1#1
    · rw [dif_pos hc]
      unfold stepO
      rw [if_pos hc]
      iapply (tr_groupsP c E arg5 arg6 harg6 arg8 (stepA i A x (decodeW q z w)) s _ Q 32 0 _ o) $$ [H8 H5 H6]
      · isplitl [H8]
        · iexact H8
        isplitl [H5]
        · iexact H5
        · iexact H6
      iintro H8 H5 H6
      sl_step
      iapply Hk $$ H2 H5 H6 H7
      iexact H8
    · rw [dif_neg hc]
      unfold stepO
      rw [if_neg hc]
      simp only [pure_bind]
      sl_step
      iapply Hk $$ H2 H5 H6 H7
      iexact H8
  by_cases hf : firstW i = 1#1
  · rw [dif_pos hf]
    simp only [Prog.bind_assoc]
    iapply (tr_storeA c E arg8 _ A _ Q) $$ H8
    iintro H8
    iapply rest $$ [H2 H5 H6 H7 H8]
    · isplitl [H2]
      · iexact H2
      isplitl [H5]
      · iexact H5
      isplitl [H6]
      · iexact H6
      isplitl [H7]
      · iexact H7
      unfold startA
      rw [if_pos hf]
      iexact H8
    iintro H2 H5 H6 H7 H8
    iapply Hk $$ H2 H3 H4 H5 H6 H7
    iexact H8
  · rw [dif_neg hf]
    iapply rest $$ [H2 H5 H6 H7 H8]
    · isplitl [H2]
      · iexact H2
      isplitl [H5]
      · iexact H5
      isplitl [H6]
      · iexact H6
      isplitl [H7]
      · iexact H7
      unfold startA
      rw [if_neg hf]
      iexact H8
    iintro H2 H5 H6 H7 H8
    iapply Hk $$ H2 H3 H4 H5 H6 H7
    iexact H8

end Access

end Cert.Kernel.Hand

end
-- ==== Proof.Kernel.TextEq.lean ====
/- The printed body is the body of `Text.lean`: both unfold to one chain of memory operations. -/
module

public import proofs.«01_k».proof.Proof.Kernel.Text
public import Idealize.ShloMosaic.Lib.Pipeline.Regions

@[expose] public section

noncomputable section

namespace Cert.Kernel.Hand

open Idealize.ShloMosaic Idealize.SL.Sem

variable {F : FTy → Type} [FloatOps F]

theorem body_eq (i : grid0.Coords) (arg2 : Memref sig .tc .vmem S256x1280 .bf16) (harg2 : arg2.IsWhole) (arg3 : Memref sig .tc .vmem S1280x128 .i32) (harg3 : arg3.IsWhole)
    (arg4 : Memref sig .tc .vmem S1x128 .i32) (harg4 : arg4.IsWhole) (arg5 : Memref sig .tc .vmem S1x1024 .f32) (harg5 : arg5.IsWhole)
    (arg6 : Memref sig .tc .vmem S256x1024 .bf16) (harg6 : arg6.IsWhole) (arg7 : Memref sig .tc .vmem S1280x1024 .bf16) (harg7 : arg7.IsWhole)
    (arg8 : Memref sig .tc .vmem S256x1024 .f32) (harg8 : arg8.IsWhole) :
    cc0__body (F := F) i arg2 harg2 arg3 harg3 arg4 harg4 arg5 harg5 arg6 harg6 arg7 harg7 arg8 harg8
      = bodyP arg2 arg3 arg4 arg5 arg6 harg6 arg7 harg7 arg8 i := by
  chain_rfl

end Cert.Kernel.Hand

end
-- ==== Proof.Kernel.FrameRun.lean ====
/- The frame: the program runs, its arguments end unchanged and every counter ends at zero. Nothing is said
   of what the staging buffers or the scratch hold. -/
module

public import proofs.«01_k».proof.Proof.Kernel.Triples
public import proofs.«01_k».proof.Proof.Kernel.TextEq
public import proofs.«01_k».proof.Proof.Gen.Kernel.Frame

@[expose] public section

noncomputable section

namespace Cert.Kernel.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A whole buffer held by what it reads is held at it. -/
theorem whole_elim (c : Dev nD) (b : Ref sig .tc) (X : b.ty.Contents (Elt F)) :
    (owns (c : Thread nD τ) (Memref.whole b) fullShare X : sProp 𝕄) ⊢ ((c : Thread nD τ).loc b ↦{fullShare} X) := by
  rw [owns_whole_eq]
  iintro ⟨%f, %hf, H⟩
  subst hf
  iexact H

/-- The body the pipeline calls at point `t`, held by what each of its buffers reads. -/
theorem tr_bodyAt (c : Dev nD) (E : Set ℕ) (t : Fin cfg0.N) (x : Vec F S256x1280 .bf16) (q : Vec F S1280x128 .i32) (z : Vec F S1x128 .i32)
    (s : Vec F S1x1024 .f32) (o : Vec F S256x1024 .bf16) (w : Vec F S1280x1024 .bf16) (A : Vec F S256x1024 .f32) (Q : PUnit → sProp 𝕄) :
    iprop(owns (c : Thread nD τ) (win0_0.stage (cfg0.slots t 0)) fullShare x ∗ owns (c : Thread nD τ) (win0_1.stage (cfg0.slots t 1)) fullShare q
        ∗ owns (c : Thread nD τ) (win0_2.stage (cfg0.slots t 2)) fullShare z
        ∗ owns (c : Thread nD τ) (win0_3.stage (cfg0.slots t 3)) fullShare s ∗ owns (c : Thread nD τ) (win0_4.stage (cfg0.slots t 4)) fullShare o
        ∗ ((c : Thread nD τ).loc cc0_scratch0 ↦{fullShare} w) ∗ ((c : Thread nD τ).loc cc0_scratch1 ↦{fullShare} A) : sProp 𝕄)
      ⊢ iprop((owns (c : Thread nD τ) (win0_0.stage (cfg0.slots t 0)) fullShare x -∗ owns (c : Thread nD τ) (win0_1.stage (cfg0.slots t 1)) fullShare q
            -∗ owns (c : Thread nD τ) (win0_2.stage (cfg0.slots t 2)) fullShare z
            -∗ owns (c : Thread nD τ) (win0_3.stage (cfg0.slots t 3)) fullShare s
            -∗ owns (c : Thread nD τ) (win0_4.stage (cfg0.slots t 4)) fullShare (stepO (grid0.coords t) (stepA (grid0.coords t) A x (decodeW q z w)) s o)
            -∗ ((c : Thread nD τ).loc cc0_scratch0 ↦{fullShare} decodeW q z w)
            -∗ ((c : Thread nD τ).loc cc0_scratch1 ↦{fullShare} stepA (grid0.coords t) A x (decodeW q z w))
            -∗ Q ⟨⟩)
        -∗ wp frame (wpE (defs₀ (F := F)) 𝒱₀ c none) E (Gen.bodyAt0 t) Q) := by
  unfold Gen.bodyAt0
  rw [body_eq]
  have h := tr_bodyP c E (win0_0.stage (cfg0.slots t 0)) (win0_1.stage (cfg0.slots t 1)) (win0_2.stage (cfg0.slots t 2)) (win0_3.stage (cfg0.slots t 3))
    (win0_4.stage (cfg0.slots t 4)) (Gen.hstage0_4 ((cfg0.slots t 4).cast Gen.nbuf0_4)) (Memref.whole cc0_scratch0) (Memref.isWhole_whole _)
    (Memref.whole cc0_scratch1) (grid0.coords t) x q z s o w A Q
  iintro ⟨H0, H1, H2, H3, H4, H7, H8⟩ Hk
  iapply h $$ [H0 H1 H2 H3 H4 H7 H8]
  · isplitl [H0]
    · iexact H0
    isplitl [H1]
    · iexact H1
    isplitl [H2]
    · iexact H2
    isplitl [H3]
    · iexact H3
    isplitl [H4]
    · iexact H4
    isplitl [H7]
    · rw [owns_whole_eq]; iexists w; isplitr; · ipureintro; rfl
      iexact H7
    · rw [owns_whole_eq]; iexists A; isplitr; · ipureintro; rfl
      iexact H8
  iintro H0 H1 H2 H3 H4 H7 H8
  ihave H7 := (whole_elim c cc0_scratch0 _) $$ H7
  ihave H8 := (whole_elim c cc0_scratch1 _) $$ H8
  iapply Hk $$ H0 H1 H2 H3 H4 H7 H8

variable (m : (ℓ : Loc nD τ sig) → Buf (Elt F) ℓ) (ρ : Dev nD → PrngReg)

/-- The proof data: the arrays as the region finds them, the scratch at anything. -/
def dats (_ : Fin 1) (c : Dev nD) : Dat τ (Elt F) Unit ℕ (UR sig nD τ) ℕ cfg0 c where
  A w := Gen.V m c (Pipeline.arrRef spec0 w)
  after w t := Dat.unnamed w t
  Φ _ := Pipeline.ΦA spec0 c
  q _ := fullShare
  owed _ := 0

theorem body_obligation (c : Dev nD) : BodyObligationLoose (dats m 0 c) defs₀ 𝒱₀ () Set.univ (fun _ => true) := fun t => by
  rw [Gen.bigSep_W0]
  change iprop(Pipeline.ΦA spec0 c ∗ (dats m 0 c).owesAt () t.castSucc ∗ (∃ X, owns (c : Thread nD τ) (win0_0.stage (cfg0.slots t 0)) fullShare X)
        ∗ (∃ X, owns (c : Thread nD τ) (win0_1.stage (cfg0.slots t 1)) fullShare X)
        ∗ (∃ X, owns (c : Thread nD τ) (win0_2.stage (cfg0.slots t 2)) fullShare X)
        ∗ (∃ X, owns (c : Thread nD τ) (win0_3.stage (cfg0.slots t 3)) fullShare X)
        ∗ (∃ X, owns (c : Thread nD τ) (win0_4.stage (cfg0.slots t 4)) fullShare X))
    ⊢ wp frame (wpE (defs₀ (F := F)) 𝒱₀ c none) Set.univ (Gen.bodyAt0 t) (fun _ =>
      iprop(Pipeline.ΦA spec0 c ∗ (dats m 0 c).owesAt () t.castSucc ∗ (∃ X, owns (c : Thread nD τ) (win0_0.stage (cfg0.slots t 0)) fullShare X)
        ∗ (∃ X, owns (c : Thread nD τ) (win0_1.stage (cfg0.slots t 1)) fullShare X)
        ∗ (∃ X, owns (c : Thread nD τ) (win0_2.stage (cfg0.slots t 2)) fullShare X)
        ∗ (∃ X, owns (c : Thread nD τ) (win0_3.stage (cfg0.slots t 3)) fullShare X)
        ∗ (∃ X, owns (c : Thread nD τ) (win0_4.stage (cfg0.slots t 4)) fullShare X)))
  unfold Pipeline.ΦA
  rw [Gen.scopedRest0_eq]
  iintro ⟨⟨⟨⟨%w, H7⟩, ⟨%A, H8⟩⟩, Hr⟩, Ho, ⟨%x, H0⟩, ⟨%q, H1⟩, ⟨%z, H2⟩, ⟨%s, H3⟩, ⟨%o, H4⟩⟩
  iapply (tr_bodyAt c Set.univ t x q z s o w A _) $$ [H0 H1 H2 H3 H4 H7 H8]
  · isplitl [H0]
    · iexact H0
    isplitl [H1]
    · iexact H1
    isplitl [H2]
    · iexact H2
    isplitl [H3]
    · iexact H3
    isplitl [H4]
    · iexact H4
    isplitl [H7]
    · iexact H7
    · iexact H8
  iintro H0 H1 H2 H3 H4 H7 H8
  isplitl [H7 H8 Hr]
  · isplitl [H7 H8]
    · isplitl [H7]
      · iexists _; iexact H7
      · iexists _; iexact H8
    · iexact Hr
  isplitl [Ho]
  · iexact Ho
  isplitl [H0]
  · iexists _; iexact H0
  isplitl [H1]
  · iexists _; iexact H1
  isplitl [H2]
  · iexists _; iexact H2
  isplitl [H3]
  · iexists _; iexact H3
  · iexists _; iexact H4

/-- The buffer the lines after the region write. -/
def tailT : Finset (Ref sig .tc) := {main_v4}

theorem tail_writes : ∀ ops ∈ ([Gen.hostOps1] : List (List (HloOp τ sig (Elt F)))), ∀ op ∈ ops, ∀ b : Ref sig .tc, Proc.devRef .tc b ∈ op.writes → b ∈ tailT := by
  intro ops hops op hop b hb
  simp only [List.mem_cons, List.mem_nil_iff, or_false] at hops
  rcases hops with rfl
  simp only [Gen.hostOps1, List.mem_cons, List.mem_nil_iff, or_false] at hop
  rcases hop with rfl
  simp only [StableHlo.reshape_writes, Finset.mem_singleton] at hb
  exact Finset.mem_singleton.mpr (Proc.devRef_injective (τ := τ) _ hb)

/-- What the frame says of a final state: the arguments as launched, every counter at zero. -/
def FrameQ (r : PUnit × MemSt nD τ sig (Elt F)) : Prop :=
  (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0

set_option backward.isDefEq.respectTransparency.types false in
/-- THE FRAME. -/
theorem frame_run : θ_run defs (onTc (τ := τ) (main (F := F))) ⟨m, fun _ => 0, ρ⟩ (FrameQ m) :=
  Pipeline.θ_run_frame_around_T_forget cfgs (dats m) (0 : Fin 1) Gen.launch0 defs₀ 𝒱₀ (fun _ => true) tailT m ρ main
    (hbody := body_obligation m)
    (hshare := fun c => (dats m 0 c).share_full fun _ => rfl) (howed := fun _ _ => rfl)
    (V₀ := Gen.V0 m) (opss := [Gen.hostOps1]) (hsub := Gen.sfx_sub) (hfresh := Gen.sfx_fresh) (hkeep := Gen.sfx_keeps) (hT := tail_writes)
    (hmain := Gen.hmain m 𝒱₀) (hA := fun _ _ => rfl) (hΦ := fun _ _ => rfl)
    (Q' := FrameQ m)
    (hQ' := fun r h => ⟨fun c => ⟨
      ((h.1 c).2 main_arg0 (Finset.mem_sdiff.mpr ⟨Pipeline.mem_restRefs_of main_arg0 (by decide) (by decide), by decide⟩)).trans (Gen.V_main_arg0 m c),
      (Pipeline.RDat.FramePostR.arr_in h.1 c 1 rfl).trans (Gen.V_main_arg1 m c),
      ((h.1 c).2 main_arg2 (Finset.mem_sdiff.mpr ⟨Pipeline.mem_restRefs_of main_arg2 (by decide) (by decide), by decide⟩)).trans (Gen.V_main_arg2 m c),
      ((h.1 c).2 main_arg3 (Finset.mem_sdiff.mpr ⟨Pipeline.mem_restRefs_of main_arg3 (by decide) (by decide), by decide⟩)).trans (Gen.V_main_arg3 m c)⟩, h.2⟩)

end Cert.Kernel.Hand

end
-- ==== Proof.KernelIdeal.Text.lean ====
/- The kernel's body, written once over: the same operations as the printed function, with the
   eight bit fields and the thirty-two row groups of the epilogue each stated once for a symbolic
   number. `body_eq` says that the two programs are one. -/
module

public import proofs.«01_k».proof.Proof.Gen.KernelIdeal

@[expose] public section

noncomputable section

namespace Cert.KernelIdeal.Hand

open Idealize.ShloMosaic Idealize.SL.Sem
open Cert.KernelIdeal.Facts₀ Cert.KernelIdeal.Facts

variable {F : FTy → Type} [FloatOps F]

/-! ## Rectangles at symbolic offsets -/

theorem inb_o (m t : ℕ) (hm : m < 32) (ht : t < 8) : ∀ a, (![8 * m, 128 * t] : Fin 2 → Nat) a + S8x128.size a ≤ S256x1024.size a := by
  intro a
  fin_cases a
  · show 8 * m + 8 ≤ 256; omega
  · show 128 * t + 128 ≤ 1024; omega

theorem inb_s (t : ℕ) (ht : t < 8) : ∀ a, (![0, 128 * t] : Fin 2 → Nat) a + S1x128.size a ≤ S1x1024.size a := by
  intro a
  fin_cases a
  · show 0 + 1 ≤ 1; omega
  · show 128 * t + 128 ≤ 1024; omega

theorem inb_w (j : ℕ) (hj : j < 8) : ∀ a, (![0, 128 * j] : Fin 2 → Nat) a + S1280x128.size a ≤ S1280x1024.size a := by
  intro a
  fin_cases a
  · show 0 + 1280 ≤ 1280; omega
  · show 128 * j + 128 ≤ 1024; omega

theorem packed_o (m t : ℕ) (hm : m < 32) (ht : t < 8) :
    (Rect.unit (s := S256x1024) ![8 * m, 128 * t] S8x128.size (inb_o m t hm ht)).PackedRows (EltTy.packing .bf16) :=
  .inr ⟨le_refl 2, rfl, .inl ⟨show 2 ∣ 8 * m from ⟨4 * m, by omega⟩, show 2 ∣ 8 from ⟨4, rfl⟩⟩⟩

theorem packed_w (j : ℕ) (hj : j < 8) :
    (Rect.unit (s := S1280x1024) ![0, 128 * j] S1280x128.size (inb_w j hj)).PackedRows (EltTy.packing .bf16) :=
  .inr ⟨le_refl 2, rfl, .inl ⟨show 2 ∣ 0 from ⟨0, rfl⟩, show 2 ∣ 1280 from ⟨640, rfl⟩⟩⟩

/-! ## The decode of one bit field -/

/-- Two rows of packed words to one row of half words: the low halves (fields 0 to 3). -/
def loW (e o : IVec S640x128 32) : IVec S640x128 32 :=
  ori (andi e (broadcast S640x128 65535#32)) (shli o (broadcast S640x128 16#32))

/-- The high halves (fields 4 to 7). -/
def hiW (e o : IVec S640x128 32) : IVec S640x128 32 :=
  ori (shrui e (broadcast S640x128 16#32)) (andi o (broadcast S640x128 4294901760#32))

/-- The weights of one field: the field at `sh` of each half word of `src`, less the zero point at `zsh`. -/
def fieldW (src : IVec S640x128 32) (zw : IVec S1x128 32) (sh zsh : BitVec 32) : FVec F S1280x128 .bf16 :=
  shapeCast S1280x128 (subf
    (bitcastToFloat .bf16 (bitcast S1280x128 16
      (ori (andi (shrui src (broadcast S640x128 sh)) (broadcast S640x128 983055#32)) (broadcast S640x128 1124090624#32))
      bitcasts_S640x128_w32_S1280x128_w16))
    (broadcastTo S1280x128 (truncf .bf16 (sitofp .f32
      (addi (andi (shrui (shapeCast S1x128 zw shapeCasts_S1x128_S1x128) (broadcast S1x128 zsh)) (broadcast S1x128 15#32)) (broadcast S1x128 128#32)))
      bitsLt_bf16_f32) broadcasts_S1x128_S1280x128)) shapeCasts_S1280x128_S1280x128

/-! ## The epilogue's index words -/

/-- The lane number. -/
def laneV : IVec S8x128 32 := iota .tc S8x128 32 [1] iota_S8x128_d1_w32

/-- The remainder by 8, rounded down. -/
def remV (x : IVec S8x128 32) : IVec S8x128 32 :=
  let d : BitVec 32 := Scalar.select (Scalar.cmpi .eq 8#32 0#32) 1#32 8#32
  let r : IVec S8x128 32 := remsi x (broadcast S8x128 d)
  select (andi (xori (cmpi .slt r (broadcast S8x128 0#32))
      (broadcastTo S8x128 (broadcast S8x128 (Scalar.cmpi .slt d 0#32)) broadcasts_S8x128_S8x128))
    (cmpi .ne r (broadcast S8x128 0#32)))
    (addi r (broadcast S8x128 d)) r

/-- The quotient by 8, rounded down. -/
def divV (x : IVec S8x128 32) : IVec S8x128 32 :=
  let q : IVec S8x128 32 := divsi x (broadcast S8x128 8#32)
  select (andi
      (cmpi .ne (subi (extui 32 (cmpi .sgt x (broadcast S8x128 0#32)) natLt_1_32) (extui 32 (cmpi .slt x (broadcast S8x128 0#32)) natLt_1_32))
        (broadcast S8x128 (Scalar.subi (Scalar.extui (Scalar.cmpi .sgt 8#32 0#32)) (Scalar.extui (Scalar.cmpi .slt 8#32 0#32)))))
      (cmpi .ne (remsi x (broadcast S8x128 8#32)) (broadcast S8x128 0#32)))
    (subi q (broadcast S8x128 1#32)) q

/-- A gather's index: a negative one counts from the end. -/
def wrapV (x : IVec S8x128 32) : IVec S8x128 32 :=
  shapeCast S8x128 (shapeCast S8x128x1
    (select (cmpi .slt x (broadcast S8x128 0#32)) (addi x (broadcast S8x128 128#32)) x)
    shapeCasts_S8x128_S8x128x1) shapeCasts_S8x128x1_S8x128

/-- The lane's residue modulo 8. -/
def resV : IVec S8x128 32 := remV laneV

/-- The first gather's lanes for field `p`. -/
def idxA (p : BitVec 32) : IVec S8x128 32 :=
  wrapV (addi (muli (broadcast S8x128 16#32) (remV (addi (subi resV (broadcast S8x128 p)) (broadcast S8x128 8#32)))) (divV laneV))

/-- The second gather's lanes for column group `t`. -/
def idxB (t : BitVec 32) : IVec S8x128 32 :=
  wrapV (addi (muli (broadcast S8x128 8#32) (divV laneV)) (remV (addi (broadcast S8x128 t) laneV)))

/-- Whether the residue has the bit `b`. -/
def bitV (b : BitVec 32) : IVec S8x128 1 := cmpi .ne (andi resV (broadcast S8x128 b)) (broadcast S8x128 0#32)

/-- Rotate the eight vectors by `b` in the lanes whose residue has the bit. -/
def rotV (b : BitVec 32) (k : Fin 8) (f : Fin 8 → FVec F S8x128 .f32) (u : Fin 8) : FVec F S8x128 .f32 :=
  select (bitV b) (f (u + k)) (f u)

/-- The eight vectors of a row group after the first gather and the three rotations. -/
def midV (a0 a1 a2 a3 a4 a5 a6 a7 : FVec F S8x128 .f32) : Fin 8 → FVec F S8x128 .f32 :=
  rotV 4#32 4 (rotV 2#32 2 (rotV 1#32 1 (fun
    | 0 => dynamicGather 1 a0 (idxA 0#32)
    | 1 => dynamicGather 1 a1 (idxA 1#32)
    | 2 => dynamicGather 1 a2 (idxA 2#32)
    | 3 => dynamicGather 1 a3 (idxA 3#32)
    | 4 => dynamicGather 1 a4 (idxA 4#32)
    | 5 => dynamicGather 1 a5 (idxA 5#32)
    | 6 => dynamicGather 1 a6 (idxA 6#32)
    | 7 => dynamicGather 1 a7 (idxA 7#32))))

/-- What one store of the epilogue writes: the second gather, times the scales. -/
def outV (f : FVec F S8x128 .f32) (t : BitVec 32) (s : FVec F S1x128 .f32) : FVec F S8x128 .bf16 :=
  truncf .bf16 (mulf (dynamicGather 1 f (idxB t))
    (broadcastTo S8x128 (shapeCast S1x128 s shapeCasts_S1x128_S1x128) broadcasts_S1x128_S8x128)) bitsLt_bf16_f32

/-! ## The program -/

section Program

variable (arg2 : Memref sig .tc .vmem S256x1280 .bf16) (arg3 : Memref sig .tc .vmem S1280x128 .i32) (arg4 : Memref sig .tc .vmem S1x128 .i32)
  (arg5 : Memref sig .tc .vmem S1x1024 .f32) (arg6 : Memref sig .tc .vmem S256x1024 .bf16) (harg6 : arg6.IsWhole)
  (arg7 : Memref sig .tc .vmem S1280x1024 .bf16) (harg7 : arg7.IsWhole) (arg8 : Memref sig .tc .vmem S256x1024 .f32)

/-- Load field `t`'s columns of row group `m` of the accumulator. -/
def loadA (m t : ℕ) (hm : m < 32) (ht : t < 8) : Prog (TpuEff nD τ sig (Elt F) Λ₀ .tc) (Vec F S8x128 .f32) :=
  Prog.lift (.load arg8 (Rect.unit (s := S256x1024) ![8 * m, 128 * t] S8x128.size (inb_o m t hm ht)).toLoadRect (View.loadsAt_vmem h_S8x128))

/-- Write column group `t` of row group `m` of the result. -/
def storeO (m t : ℕ) (hm : m < 32) (ht : t < 8) (f : FVec F S8x128 .f32) (tw : BitVec 32) : Prog (TpuEff nD τ sig (Elt F) Λ₀ .tc) PUnit := do
  let s : Vec F S1x128 .f32 ← Prog.lift (.load arg5 (Rect.unit (s := S1x1024) ![0, 128 * t] S1x128.size (inb_s t ht)).toLoadRect (View.loadsAt_vmem h_S1x128))
  let _ : Vec F S8x128 .bf16 ← Prog.lift (.load arg6 (Rect.unit (s := S256x1024) ![8 * m, 128 * t] S8x128.size (inb_o m t hm ht)).toLoadRect (View.loadsAt_vmem h_S8x128))
  Prog.lift (.store arg6 (Rect.unit (s := S256x1024) ![8 * m, 128 * t] S8x128.size (inb_o m t hm ht)) (outV f tw s) Finset.univ
    (View.stores_vmem h_S8x128 (harg6.storeExact_slice rfl _ (packed_o m t hm ht)) (fun _ => rfl)) (.inl rfl))

/-- One row group of the epilogue. -/
def groupP (m : ℕ) (hm : m < 32) : Prog (TpuEff nD τ sig (Elt F) Λ₀ .tc) PUnit := do
  let a0 : Vec F S8x128 .f32 ← loadA arg8 m 0 hm (by decide)
  let a1 : Vec F S8x128 .f32 ← loadA arg8 m 4 hm (by decide)
  let a2 : Vec F S8x128 .f32 ← loadA arg8 m 1 hm (by decide)
  let a3 : Vec F S8x128 .f32 ← loadA arg8 m 5 hm (by decide)
  let a4 : Vec F S8x128 .f32 ← loadA arg8 m 2 hm (by decide)
  let a5 : Vec F S8x128 .f32 ← loadA arg8 m 6 hm (by decide)
  let a6 : Vec F S8x128 .f32 ← loadA arg8 m 3 hm (by decide)
  let a7 : Vec F S8x128 .f32 ← loadA arg8 m 7 hm (by decide)
  storeO arg5 arg6 harg6 m 0 hm (by decide) (midV a0 a1 a2 a3 a4 a5 a6 a7 0) 0#32
  storeO arg5 arg6 harg6 m 1 hm (by decide) (midV a0 a1 a2 a3 a4 a5 a6 a7 7) 1#32
  storeO arg5 arg6 harg6 m 2 hm (by decide) (midV a0 a1 a2 a3 a4 a5 a6 a7 6) 2#32
  storeO arg5 arg6 harg6 m 3 hm (by decide) (midV a0 a1 a2 a3 a4 a5 a6 a7 5) 3#32
  storeO arg5 arg6 harg6 m 4 hm (by decide) (midV a0 a1 a2 a3 a4 a5 a6 a7 4) 4#32
  storeO arg5 arg6 harg6 m 5 hm (by decide) (midV a0 a1 a2 a3 a4 a5 a6 a7 3) 5#32
  storeO arg5 arg6 harg6 m 6 hm (by decide) (midV a0 a1 a2 a3 a4 a5 a6 a7 2) 6#32
  storeO arg5 arg6 harg6 m 7 hm (by decide) (midV a0 a1 a2 a3 a4 a5 a6 a7 1) 7#32

/-- The row groups from `m` on, `n` of them. -/
def groupsP : (n m : ℕ) → m + n ≤ 32 → Prog (TpuEff nD τ sig (Elt F) Λ₀ .tc) PUnit
  | 0, _, _ => pure ⟨⟩
  | n + 1, m, h => do
    groupP arg5 arg6 harg6 arg8 m (by omega)
    groupsP n (m + 1) (by omega)

/-- Write the weights of field `j`. -/
def storeW (j : ℕ) (hj : j < 8) (w : FVec F S1280x128 .bf16) : Prog (TpuEff nD τ sig (Elt F) Λ₀ .tc) PUnit := do
  let _ : Vec F S1280x128 .bf16 ← Prog.lift (.load arg7 (Rect.unit (s := S1280x1024) ![0, 128 * j] S1280x128.size (inb_w j hj)).toLoadRect (View.loadsAt_vmem h_S1280x128))
  Prog.lift (.store arg7 (Rect.unit (s := S1280x1024) ![0, 128 * j] S1280x128.size (inb_w j hj)) w Finset.univ
    (View.stores_vmem h_S1280x128 (harg7.storeExact_slice rfl _ (packed_w j hj)) (fun _ => rfl)) (.inl rfl))

/-- Write a whole accumulator. -/
def storeA (a : FVec F S256x1024 .f32) : Prog (TpuEff nD τ sig (Elt F) Λ₀ .tc) PUnit := do
  let _ : Vec F S256x1024 .f32 ← Prog.lift (.load arg8 (Rect.unit (s := S256x1024) ![0, 0] S256x1024.size inb_S256x1024_S256x1024_0_0).toLoadRect (View.loadsAt_vmem h_S256x1024))
  Prog.lift (.store arg8 (Rect.unit (s := S256x1024) ![0, 0] S256x1024.size inb_S256x1024_S256x1024_0_0) (shapeCast S256x1024 a shapeCasts_S256x1024_S256x1024)
    Finset.univ (View.stores_vmem_bits_univ h_S256x1024 rfl) (.inl rfl))

/-- The accumulator's next contents. -/
def nextA (a : FVec F S256x1024 .f32) (x : FVec F S256x1280 .bf16) (w : FVec F S1280x1024 .bf16) : FVec F S256x1024 .f32 :=
  addf a (matmul dot_S256x1280_S1280x1024_S256x1024_1_0_0_1_n_n none (shapeCast S256x1280 x shapeCasts_S256x1280_S256x1280) w
    (constant S256x1024 .f32 0x00000000#32))

/-- Whether the point is the first of its reduction. -/
def firstW (i : grid0.Coords) : BitVec 1 :=
  Scalar.cmpi .ne (Scalar.extui (Scalar.cmpi .eq (BitVec.ofNat 32 (i 1).val) 0#32) : BitVec 32) 0#32

/-- Decode the block's eight fields. -/
def decodeP : Prog (TpuEff nD τ sig (Elt F) Λ₀ .tc) PUnit := do
  let e : Vec F S640x128 .i32 ← Prog.lift (.load arg3 (⟨![0, 0], S640x128.size, ![2, 1], inb_S1280x128_S640x128_0_0_s_2_1⟩ : LoadRect S1280x128) (View.loadsAt_vmem h_S640x128))
  let o : Vec F S640x128 .i32 ← Prog.lift (.load arg3 (⟨![1, 0], S640x128.size, ![2, 1], inb_S1280x128_S640x128_1_0_s_2_1⟩ : LoadRect S1280x128) (View.loadsAt_vmem h_S640x128))
  let z : Vec F S1x128 .i32 ← Prog.lift (.load arg4 (Rect.unit (s := S1x128) ![0, 0] S1x128.size inb_S1x128_S1x128_0_0).toLoadRect (View.loadsAt_vmem h_S1x128))
  storeW arg7 harg7 0 (by decide) (fieldW (loW e o) z 0#32 0#32)
  storeW arg7 harg7 1 (by decide) (fieldW (loW e o) z 4#32 4#32)
  storeW arg7 harg7 2 (by decide) (fieldW (loW e o) z 8#32 8#32)
  storeW arg7 harg7 3 (by decide) (fieldW (loW e o) z 12#32 12#32)
  storeW arg7 harg7 4 (by decide) (fieldW (hiW e o) z 0#32 16#32)
  storeW arg7 harg7 5 (by decide) (fieldW (hiW e o) z 4#32 20#32)
  storeW arg7 harg7 6 (by decide) (fieldW (hiW e o) z 8#32 24#32)
  storeW arg7 harg7 7 (by decide) (fieldW (hiW e o) z 12#32 28#32)

/-- The body: decode; clear the accumulator at the reduction's first point; accumulate; at its last, permute and scale. -/
def bodyP (i : grid0.Coords) : Prog (TpuEff nD τ sig (Elt F) Λ₀ .tc) PUnit := do
  decodeP arg3 arg4 arg7 harg7
  if _h : firstW i = 1#1 then do
    storeA arg8 (broadcast S256x1024 (Scalar.ofBits .f32 0x00000000#32))
    pure ⟨⟩
  else do
    pure ⟨⟩
  let a : Vec F S256x1024 .f32 ← Prog.lift (.load arg8 (Rect.unit (s := S256x1024) ![0, 0] S256x1024.size inb_S256x1024_S256x1024_0_0).toLoadRect (View.loadsAt_vmem h_S256x1024))
  let x : Vec F S256x1280 .bf16 ← Prog.lift (.load arg2 (Rect.unit (s := S256x1280) ![0, 0] S256x1280.size inb_S256x1280_S256x1280_0_0).toLoadRect (View.loadsAt_vmem h_S256x1280))
  let w : Vec F S1280x1024 .bf16 ← Prog.lift (.load arg7 (Rect.unit (s := S1280x1024) ![0, 0] S1280x1024.size inb_S1280x1024_S1280x1024_0_0).toLoadRect (View.loadsAt_vmem h_S1280x1024))
  storeA arg8 (nextA a x w)
  if _h : k0_cond2 i = 1#1 then do
    groupsP arg5 arg6 harg6 arg8 32 0 (by decide)
  else do
    pure ⟨⟩
  pure ⟨⟩

end Program

end Cert.KernelIdeal.Hand

end
-- ==== Proof.KernelIdeal.Triples.lean ====
/- What the body of `Text.lean` does to the buffers it is given, whatever they hold: one triple for
   each of its parts, and one for the whole. -/
module

public import proofs.«01_k».proof.Proof.KernelIdeal.Text
public import proofs.«01_k».proof.Proof.Gen.KernelIdeal.Launch
public import Idealize.ShloMosaic.Lib.Tactic
public import Idealize.ShloMosaic.Lib.VecWindow
public import Idealize.ShloMosaic.Lib.Pipeline.TableIdle

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F]

local notation "𝕄" => MT nD τ sig Unit (Elt F) ℕ (UR sig nD τ) ℕ

/-- The kernel's variants: none. -/
abbrev 𝒱₀ : Variants := Variants.none

/-! ## What the parts leave -/

/-- Column group `t` of row group `m` of an accumulator. -/
def winA (A : Vec F S256x1024 .f32) (m t : ℕ) (hm : m < 32) (ht : t < 8) : Vec F S8x128 .f32 :=
  VecWindow.window A ![8 * m, 128 * t] S8x128.size (inb_o m t hm ht)

/-- Column group `t` of a row of scales. -/
def winS (s : Vec F S1x1024 .f32) (t : ℕ) (ht : t < 8) : Vec F S1x128 .f32 :=
  VecWindow.window s ![0, 128 * t] S1x128.size (inb_s t ht)

/-- The eight rotated vectors of row group `m`. -/
def midG (A : Vec F S256x1024 .f32) (m : ℕ) (hm : m < 32) : Fin 8 → FVec F S8x128 .f32 :=
  midV (winA A m 0 hm (by decide)) (winA A m 4 hm (by decide)) (winA A m 1 hm (by decide)) (winA A m 5 hm (by decide))
    (winA A m 2 hm (by decide)) (winA A m 6 hm (by decide)) (winA A m 3 hm (by decide)) (winA A m 7 hm (by decide))

/-- A result with one column group of one row group replaced. -/
def putO (m t : ℕ) (w : FVec F S8x128 .bf16) (o : Vec F S256x1024 .bf16) : Vec F S256x1024 .bf16 :=
  VecWindow.put o ![8 * m, 128 * t] S8x128.size w

/-- A result after row group `m`. -/
def groupO (A : Vec F S256x1024 .f32) (s : Vec F S1x1024 .f32) (m : ℕ) (hm : m < 32) (o : Vec F S256x1024 .bf16) : Vec F S256x1024 .bf16 :=
  putO m 7 (outV (midG A m hm 1) 7#32 (winS s 7 (by decide)))
    (putO m 6 (outV (midG A m hm 2) 6#32 (winS s 6 (by decide)))
    (putO m 5 (outV (midG A m hm 3) 5#32 (winS s 5 (by decide)))
    (putO m 4 (outV (midG A m hm 4) 4#32 (winS s 4 (by decide)))
    (putO m 3 (outV (midG A m hm 5) 3#32 (winS s 3 (by decide)))
    (putO m 2 (outV (midG A m hm 6) 2#32 (winS s 2 (by decide)))
    (putO m 1 (outV (midG A m hm 7) 1#32 (winS s 1 (by decide)))
    (putO m 0 (outV (midG A m hm 0) 0#32 (winS s 0 (by decide))) o)))))))

/-- A result after the row groups from `m` on, `n` of them. -/
def groupsO (A : Vec F S256x1024 .f32) (s : Vec F S1x1024 .f32) : (n m : ℕ) → m + n ≤ 32 → Vec F S256x1024 .bf16 → Vec F S256x1024 .bf16
  | 0, _, _, o => o
  | n + 1, m, h, o => groupsO A s n (m + 1) (by omega) (groupO A s m (by omega) o)

/-- Weights with those of one field replaced. -/
def putW (j : ℕ) (w : FVec F S1280x128 .bf16) (o : Vec F S1280x1024 .bf16) : Vec F S1280x1024 .bf16 :=
  VecWindow.put o ![0, 128 * j] S1280x128.size w

/-- The even rows of a block of packed words, and the odd ones. -/
def evenR (q : Vec F S1280x128 .i32) : IVec S640x128 32 :=
  fun y => q ((⟨![0, 0], S640x128.size, ![2, 1], inb_S1280x128_S640x128_0_0_s_2_1⟩ : LoadRect S1280x128).idx y)
def oddR (q : Vec F S1280x128 .i32) : IVec S640x128 32 :=
  fun y => q ((⟨![1, 0], S640x128.size, ![2, 1], inb_S1280x128_S640x128_1_0_s_2_1⟩ : LoadRect S1280x128).idx y)

/-- The decoded weights. -/
def decodeW (q : Vec F S1280x128 .i32) (z : Vec F S1x128 .i32) (o : Vec F S1280x1024 .bf16) : Vec F S1280x1024 .bf16 :=
  putW 7 (fieldW (hiW (evenR q) (oddR q)) z 12#32 28#32)
    (putW 6 (fieldW (hiW (evenR q) (oddR q)) z 8#32 24#32)
    (putW 5 (fieldW (hiW (evenR q) (oddR q)) z 4#32 20#32)
    (putW 4 (fieldW (hiW (evenR q) (oddR q)) z 0#32 16#32)
    (putW 3 (fieldW (loW (evenR q) (oddR q)) z 12#32 12#32)
    (putW 2 (fieldW (loW (evenR q) (oddR q)) z 8#32 8#32)
    (putW 1 (fieldW (loW (evenR q) (oddR q)) z 4#32 4#32)
    (putW 0 (fieldW (loW (evenR q) (oddR q)) z 0#32 0#32) o)))))))

/-- The accumulator a point starts from. -/
def startA (i : grid0.Coords) (a : Vec F S256x1024 .f32) : Vec F S256x1024 .f32 :=
  if firstW i = 1#1 then shapeCast S256x1024 (broadcast S256x1024 (Scalar.ofBits .f32 0x00000000#32)) shapeCasts_S256x1024_S256x1024 else a

/-- The accumulator a point leaves. -/
def stepA (i : grid0.Coords) (a : Vec F S256x1024 .f32) (x : Vec F S256x1280 .bf16) (w : Vec F S1280x1024 .bf16) : Vec F S256x1024 .f32 :=
  shapeCast S256x1024 (nextA (startA i a) x w) shapeCasts_S256x1024_S256x1024

/-- The result's block a point leaves. -/
def stepO (i : grid0.Coords) (A : Vec F S256x1024 .f32) (s : Vec F S1x1024 .f32) (o : Vec F S256x1024 .bf16) : Vec F S256x1024 .bf16 :=
  if k0_cond2 i = 1#1 then groupsO A s 32 0 (by decide) o else o

/-! ## One access, of a memref held by what it reads -/

section Access

variable (c : Dev nD) (E : Set ℕ)

theorem own_load {s : Shape} {e : EltTy} {α : Type} (M : Memref sig .tc .vmem s e) (r : LoadRect s) (hl : M.view.LoadsAt r) (X : s.Idx → Elt F e)
    (k : (r.shape.Idx → Elt F e) → Prog (TpuEff nD τ sig (Elt F) Λ₀ .tc) α) (Q : α → sProp 𝕄) :
    (owns (c : Thread nD τ) M fullShare X : sProp 𝕄)
      ⊢ iprop((owns (c : Thread nD τ) M fullShare X -∗ wp frame (wpE (defs₀ (F := F)) 𝒱₀ c none) E (k (fun y => X (r.idx y))) Q)
        -∗ wp frame (wpE (defs₀ (F := F)) 𝒱₀ c none) E (.op (.load M r hl) k) Q) := by
  unfold owns
  iintro ⟨%f, %hf, H⟩ Hk
  have e0 : M.view.readAt (Elt F) r f = fun y => X (r.idx y) := by
    funext y; exact congrFun hf (r.idx y)
  iapply (wp_load (defs := defs₀ (F := F)) 𝒱₀ (c : Thread nD τ) none E (m := M) (r := r) (hl := hl) (S := M.view.set) (f := f) (View.setOn_subset_set _ _)) $$ H
  iintro H
  rw [e0]
  iapply Hk
  iexists f; isplitr; · ipureintro; exact hf
  iexact H

theorem own_store {s : Shape} {e : EltTy} {α : Type} (M : Memref sig .tc .vmem s e) (off size : Fin s.rank → ℕ) (inb : ∀ a, off a + size a ≤ s.size a)
    (w : (Rect.unit off size inb).shape.Idx → Elt F e)
    (hx : (M.access (Rect.unit off size inb)).Stores Finset.univ) (hm) (X : s.Idx → Elt F e)
    (k : PUnit → Prog (TpuEff nD τ sig (Elt F) Λ₀ .tc) α) (Q : α → sProp 𝕄) :
    (owns (c : Thread nD τ) M fullShare X : sProp 𝕄)
      ⊢ iprop((owns (c : Thread nD τ) M fullShare (VecWindow.put X off size w) -∗ wp frame (wpE (defs₀ (F := F)) 𝒱₀ c none) E (k ⟨⟩) Q)
        -∗ wp frame (wpE (defs₀ (F := F)) 𝒱₀ c none) E (.op (.store M (Rect.unit off size inb) w Finset.univ hx hm) k) Q) := by
  unfold owns
  iintro ⟨%f, %hf, H⟩ Hk
  have hw : M.view.read (Elt F) ((M.access (Rect.unit off size inb)).write (Elt F) f w Finset.univ) = VecWindow.put X off size w := by
    subst hf
    exact View.read_writes_cons_put M.view f inb w [] rfl
  iapply (wp_store (defs := defs₀ (F := F)) 𝒱₀ (c : Thread nD τ) none E (m := M) (r := Rect.unit off size inb) (hx := hx) (S := M.view.set) (f := f) ?hS) $$ H
  case hS => exact (View.setOn_subset_set _ _).trans (by rw [View.set_slice]; exact View.setOn_subset_set _ _)
  iintro H
  iapply Hk
  iexists _; isplitr; · ipureintro; exact hw
  iexact H

/-! ## The parts -/

/-- A window of eight rows of the accumulator. -/
theorem tr_loadA {α : Type} (arg8 : Memref sig .tc .vmem S256x1024 .f32) (m t : ℕ) (hm : m < 32) (ht : t < 8) (A : Vec F S256x1024 .f32)
    (k : Vec F S8x128 .f32 → Prog (TpuEff nD τ sig (Elt F) Λ₀ .tc) α) (Q : α → sProp 𝕄) :
    (owns (c : Thread nD τ) arg8 fullShare A : sProp 𝕄)
      ⊢ iprop((owns (c : Thread nD τ) arg8 fullShare A -∗ wp frame (wpE (defs₀ (F := F)) 𝒱₀ c none) E (k (winA A m t hm ht)) Q)
        -∗ wp frame (wpE (defs₀ (F := F)) 𝒱₀ c none) E (loadA arg8 m t hm ht >>= k) Q) := by
  unfold loadA
  simp only [Prog.lift, Prog.bind_op, Prog.bind_ret]
  iintro H Hk
  iapply (own_load c E arg8 _ _ A _ Q) $$ H
  iexact Hk

theorem tr_storeO {α : Type} (arg5 : Memref sig .tc .vmem S1x1024 .f32) (arg6 : Memref sig .tc .vmem S256x1024 .bf16) (harg6 : arg6.IsWhole)
    (m t : ℕ) (hm : m < 32) (ht : t < 8) (f : FVec F S8x128 .f32) (tw : BitVec 32) (s : Vec F S1x1024 .f32) (o : Vec F S256x1024 .bf16)
    (k : PUnit → Prog (TpuEff nD τ sig (Elt F) Λ₀ .tc) α) (Q : α → sProp 𝕄) :
    iprop(owns (c : Thread nD τ) arg5 fullShare s ∗ owns (c : Thread nD τ) arg6 fullShare o : sProp 𝕄)
      ⊢ iprop((owns (c : Thread nD τ) arg5 fullShare s -∗ owns (c : Thread nD τ) arg6 fullShare (putO m t (outV f tw (winS s t ht)) o)
          -∗ wp frame (wpE (defs₀ (F := F)) 𝒱₀ c none) E (k ⟨⟩) Q)
        -∗ wp frame (wpE (defs₀ (F := F)) 𝒱₀ c none) E (storeO arg5 arg6 harg6 m t hm ht f tw >>= k) Q) := by
  unfold storeO
  simp only [Prog.lift, Prog.bind_op, Prog.bind_ret]
  iintro ⟨H5, H6⟩ Hk
  iapply (own_load c E arg5 _ _ s _ Q) $$ H5
  iintro H5
  iapply (own_load c E arg6 _ _ o _ Q) $$ H6
  iintro H6
  iapply (own_store c E arg6 _ _ _ _ _ _ o _ Q) $$ H6
  iintro H6
  iapply Hk $$ H5
  iexact H6

/-- One row group. -/
theorem tr_groupP {α : Type} (arg5 : Memref sig .tc .vmem S1x1024 .f32) (arg6 : Memref sig .tc .vmem S256x1024 .bf16) (harg6 : arg6.IsWhole)
    (arg8 : Memref sig .tc .vmem S256x1024 .f32) (m : ℕ) (hm : m < 32) (A : Vec F S256x1024 .f32) (s : Vec F S1x1024 .f32) (o : Vec F S256x1024 .bf16)
    (k : PUnit → Prog (TpuEff nD τ sig (Elt F) Λ₀ .tc) α) (Q : α → sProp 𝕄) :
    iprop(owns (c : Thread nD τ) arg8 fullShare A ∗ owns (c : Thread nD τ) arg5 fullShare s ∗ owns (c : Thread nD τ) arg6 fullShare o : sProp 𝕄)
      ⊢ iprop((owns (c : Thread nD τ) arg8 fullShare A -∗ owns (c : Thread nD τ) arg5 fullShare s
            -∗ owns (c : Thread nD τ) arg6 fullShare (groupO A s m hm o)
          -∗ wp frame (wpE (defs₀ (F := F)) 𝒱₀ c none) E (k ⟨⟩) Q)
        -∗ wp frame (wpE (defs₀ (F := F)) 𝒱₀ c none) E (groupP arg5 arg6 harg6 arg8 m hm >>= k) Q) := by
  unfold groupP
  simp only [Prog.bind_assoc]
  iintro ⟨H8, H5, H6⟩ Hk
  iapply (tr_loadA c E arg8 _ _ _ _ A _ Q) $$ H8
  iintro H8
  iapply (tr_loadA c E arg8 _ _ _ _ A _ Q) $$ H8
  iintro H8
  iapply (tr_loadA c E arg8 _ _ _ _ A _ Q) $$ H8
  iintro H8
  iapply (tr_loadA c E arg8 _ _ _ _ A _ Q) $$ H8
  iintro H8
  iapply (tr_loadA c E arg8 _ _ _ _ A _ Q) $$ H8
  iintro H8
  iapply (tr_loadA c E arg8 _ _ _ _ A _ Q) $$ H8
  iintro H8
  iapply (tr_loadA c E arg8 _ _ _ _ A _ Q) $$ H8
  iintro H8
  iapply (tr_loadA c E arg8 _ _ _ _ A _ Q) $$ H8
  iintro H8
  iapply (tr_storeO c E arg5 arg6 harg6 _ _ _ _ _ _ s _ _ Q) $$ [H5 H6]
  · isplitl [H5]
    · iexact H5
    · iexact H6
  iintro H5 H6
  iapply (tr_storeO c E arg5 arg6 harg6 _ _ _ _ _ _ s _ _ Q) $$ [H5 H6]
  · isplitl [H5]
    · iexact H5
    · iexact H6
  iintro H5 H6
  iapply (tr_storeO c E arg5 arg6 harg6 _ _ _ _ _ _ s _ _ Q) $$ [H5 H6]
  · isplitl [H5]
    · iexact H5
    · iexact H6
  iintro H5 H6
  iapply (tr_storeO c E arg5 arg6 harg6 _ _ _ _ _ _ s _ _ Q) $$ [H5 H6]
  · isplitl [H5]
    · iexact H5
    · iexact H6
  iintro H5 H6
  iapply (tr_storeO c E arg5 arg6 harg6 _ _ _ _ _ _ s _ _ Q) $$ [H5 H6]
  · isplitl [H5]
    · iexact H5
    · iexact H6
  iintro H5 H6
  iapply (tr_storeO c E arg5 arg6 harg6 _ _ _ _ _ _ s _ _ Q) $$ [H5 H6]
  · isplitl [H5]
    · iexact H5
    · iexact H6
  iintro H5 H6
  iapply (tr_storeO c E arg5 arg6 harg6 _ _ _ _ _ _ s _ _ Q) $$ [H5 H6]
  · isplitl [H5]
    · iexact H5
    · iexact H6
  iintro H5 H6
  iapply (tr_storeO c E arg5 arg6 harg6 _ _ _ _ _ _ s _ _ Q) $$ [H5 H6]
  · isplitl [H5]
    · iexact H5
    · iexact H6
  iintro H5 H6
  iapply Hk $$ H8 H5
  iexact H6

/-- The row groups from `m` on. -/
theorem tr_groupsP {α : Type} (arg5 : Memref sig .tc .vmem S1x1024 .f32) (arg6 : Memref sig .tc .vmem S256x1024 .bf16) (harg6 : arg6.IsWhole)
    (arg8 : Memref sig .tc .vmem S256x1024 .f32) (A : Vec F S256x1024 .f32) (s : Vec F S1x1024 .f32)
    (k : PUnit → Prog (TpuEff nD τ sig (Elt F) Λ₀ .tc) α) (Q : α → sProp 𝕄) (n : ℕ) :
    ∀ (m : ℕ) (h : m + n ≤ 32) (o : Vec F S256x1024 .bf16),
    iprop(owns (c : Thread nD τ) arg8 fullShare A ∗ owns (c : Thread nD τ) arg5 fullShare s ∗ owns (c : Thread nD τ) arg6 fullShare o : sProp 𝕄)
      ⊢ iprop((owns (c : Thread nD τ) arg8 fullShare A -∗ owns (c : Thread nD τ) arg5 fullShare s
            -∗ owns (c : Thread nD τ) arg6 fullShare (groupsO A s n m h o)
          -∗ wp frame (wpE (defs₀ (F := F)) 𝒱₀ c none) E (k ⟨⟩) Q)
        -∗ wp frame (wpE (defs₀ (F := F)) 𝒱₀ c none) E (groupsP arg5 arg6 harg6 arg8 n m h >>= k) Q) := by
  induction n with
  | zero =>
    intro m h o
    iintro ⟨H8, H5, H6⟩ Hk
    iapply Hk $$ H8 H5
    iexact H6
  | succ n ih =>
    intro m h o
    unfold groupsP
    simp only [Prog.bind_assoc]
    iintro ⟨H8, H5, H6⟩ Hk
    iapply (tr_groupP c E arg5 arg6 harg6 arg8 m _ A s o _ Q) $$ [H8 H5 H6]
    · isplitl [H8]
      · iexact H8
      isplitl [H5]
      · iexact H5
      · iexact H6
    iintro H8 H5 H6
    iapply (ih (m + 1) _ _) $$ [H8 H5 H6]
    · isplitl [H8]
      · iexact H8
      isplitl [H5]
      · iexact H5
      · iexact H6
    iexact Hk

/-- The weights of one field. -/
theorem tr_storeW {α : Type} (arg7 : Memref sig .tc .vmem S1280x1024 .bf16) (harg7 : arg7.IsWhole) (j : ℕ) (hj : j < 8)
    (w : FVec F S1280x128 .bf16) (o : Vec F S1280x1024 .bf16)
    (k : PUnit → Prog (TpuEff nD τ sig (Elt F) Λ₀ .tc) α) (Q : α → sProp 𝕄) :
    (owns (c : Thread nD τ) arg7 fullShare o : sProp 𝕄)
      ⊢ iprop((owns (c : Thread nD τ) arg7 fullShare (putW j w o) -∗ wp frame (wpE (defs₀ (F := F)) 𝒱₀ c none) E (k ⟨⟩) Q)
        -∗ wp frame (wpE (defs₀ (F := F)) 𝒱₀ c none) E (storeW arg7 harg7 j hj w >>= k) Q) := by
  unfold storeW
  simp only [Prog.lift, Prog.bind_op, Prog.bind_ret]
  iintro H7 Hk
  iapply (own_load c E arg7 _ _ o _ Q) $$ H7
  iintro H7
  iapply (own_store c E arg7 _ _ _ _ _ _ o _ Q) $$ H7
  iexact Hk

/-- The decode. -/
theorem tr_decodeP {α : Type} (arg3 : Memref sig .tc .vmem S1280x128 .i32) (arg4 : Memref sig .tc .vmem S1x128 .i32)
    (arg7 : Memref sig .tc .vmem S1280x1024 .bf16) (harg7 : arg7.IsWhole)
    (q : Vec F S1280x128 .i32) (z : Vec F S1x128 .i32) (o : Vec F S1280x1024 .bf16)
    (k : PUnit → Prog (TpuEff nD τ sig (Elt F) Λ₀ .tc) α) (Q : α → sProp 𝕄) :
    iprop(owns (c : Thread nD τ) arg3 fullShare q ∗ owns (c : Thread nD τ) arg4 fullShare z ∗ owns (c : Thread nD τ) arg7 fullShare o : sProp 𝕄)
      ⊢ iprop((owns (c : Thread nD τ) arg3 fullShare q -∗ owns (c : Thread nD τ) arg4 fullShare z
            -∗ owns (c : Thread nD τ) arg7 fullShare (decodeW q z o)
          -∗ wp frame (wpE (defs₀ (F := F)) 𝒱₀ c none) E (k ⟨⟩) Q)
        -∗ wp frame (wpE (defs₀ (F := F)) 𝒱₀ c none) E (decodeP arg3 arg4 arg7 harg7 >>= k) Q) := by
  have hz : ∀ y : S1x128.Idx, (Rect.unit (s := S1x128) ![0, 0] S1x128.size Facts₀.inb_S1x128_S1x128_0_0).toLoadRect.idx y = y :=
    fun y => Rect.emb_unit_full (s := S1x128) _ y
  unfold decodeP
  simp only [Prog.bind_assoc]
  iintro ⟨H3, H4, H7⟩ Hk
  simp only [Prog.lift, Prog.bind_op, Prog.bind_ret]
  iapply (own_load c E arg3 _ _ q _ Q) $$ H3
  iintro H3
  iapply (own_load c E arg3 _ _ q _ Q) $$ H3
  iintro H3
  iapply (own_load c E arg4 _ _ z _ Q) $$ H4
  iintro H4
  simp only [hz]
  iapply (tr_storeW c E arg7 harg7 _ _ _ _ _ Q) $$ H7
  iintro H7
  iapply (tr_storeW c E arg7 harg7 _ _ _ _ _ Q) $$ H7
  iintro H7
  iapply (tr_storeW c E arg7 harg7 _ _ _ _ _ Q) $$ H7
  iintro H7
  iapply (tr_storeW c E arg7 harg7 _ _ _ _ _ Q) $$ H7
  iintro H7
  iapply (tr_storeW c E arg7 harg7 _ _ _ _ _ Q) $$ H7
  iintro H7
  iapply (tr_storeW c E arg7 harg7 _ _ _ _ _ Q) $$ H7
  iintro H7
  iapply (tr_storeW c E arg7 harg7 _ _ _ _ _ Q) $$ H7
  iintro H7
  iapply (tr_storeW c E arg7 harg7 _ _ _ _ _ Q) $$ H7
  iintro H7
  iapply Hk $$ H3 H4
  iexact H7

/-- A whole accumulator. -/
theorem tr_storeA {α : Type} (arg8 : Memref sig .tc .vmem S256x1024 .f32) (a A : Vec F S256x1024 .f32)
    (k : PUnit → Prog (TpuEff nD τ sig (Elt F) Λ₀ .tc) α) (Q : α → sProp 𝕄) :
    (owns (c : Thread nD τ) arg8 fullShare A : sProp 𝕄)
      ⊢ iprop((owns (c : Thread nD τ) arg8 fullShare (shapeCast S256x1024 a Facts₀.shapeCasts_S256x1024_S256x1024 : Vec F S256x1024 .f32)
            -∗ wp frame (wpE (defs₀ (F := F)) 𝒱₀ c none) E (k ⟨⟩) Q)
        -∗ wp frame (wpE (defs₀ (F := F)) 𝒱₀ c none) E (storeA arg8 a >>= k) Q) := by
  have hput : ∀ w : Vec F S256x1024 .f32, VecWindow.put A ![0, 0] S256x1024.size w = w := by
    intro w
    have h := VecWindow.window_put_same A ![0, 0] S256x1024.size Facts₀.inb_S256x1024_S256x1024_0_0 w
    funext y
    have h1 := congrFun h y
    unfold VecWindow.window at h1
    rwa [Rect.emb_unit_full (s := S256x1024)] at h1
  unfold storeA
  simp only [Prog.lift, Prog.bind_op, Prog.bind_ret]
  iintro H8 Hk
  iapply (own_load c E arg8 _ _ A _ Q) $$ H8
  iintro H8
  iapply (own_store c E arg8 _ _ _ _ _ _ A _ Q) $$ H8
  rw [hput]
  iexact Hk

/-- The body: weights decoded, the accumulator moved on, and at the reduction's last point the result's block written. -/
theorem tr_bodyP (arg2 : Memref sig .tc .vmem S256x1280 .bf16) (arg3 : Memref sig .tc .vmem S1280x128 .i32) (arg4 : Memref sig .tc .vmem S1x128 .i32)
    (arg5 : Memref sig .tc .vmem S1x1024 .f32) (arg6 : Memref sig .tc .vmem S256x1024 .bf16) (harg6 : arg6.IsWhole)
    (arg7 : Memref sig .tc .vmem S1280x1024 .bf16) (harg7 : arg7.IsWhole) (arg8 : Memref sig .tc .vmem S256x1024 .f32) (i : grid0.Coords)
    (x : Vec F S256x1280 .bf16) (q : Vec F S1280x128 .i32) (z : Vec F S1x128 .i32) (s : Vec F S1x1024 .f32) (o : Vec F S256x1024 .bf16)
    (w : Vec F S1280x1024 .bf16) (A : Vec F S256x1024 .f32) (Q : PUnit → sProp 𝕄) :
    iprop(owns (c : Thread nD τ) arg2 fullShare x ∗ owns (c : Thread nD τ) arg3 fullShare q ∗ owns (c : Thread nD τ) arg4 fullShare z
        ∗ owns (c : Thread nD τ) arg5 fullShare s ∗ owns (c : Thread nD τ) arg6 fullShare o
        ∗ owns (c : Thread nD τ) arg7 fullShare w ∗ owns (c : Thread nD τ) arg8 fullShare A : sProp 𝕄)
      ⊢ iprop((owns (c : Thread nD τ) arg2 fullShare x -∗ owns (c : Thread nD τ) arg3 fullShare q -∗ owns (c : Thread nD τ) arg4 fullShare z
            -∗ owns (c : Thread nD τ) arg5 fullShare s
            -∗ owns (c : Thread nD τ) arg6 fullShare (stepO i (stepA i A x (decodeW q z w)) s o)
            -∗ owns (c : Thread nD τ) arg7 fullShare (decodeW q z w)
            -∗ owns (c : Thread nD τ) arg8 fullShare (stepA i A x (decodeW q z w))
            -∗ Q ⟨⟩)
        -∗ wp frame (wpE (defs₀ (F := F)) 𝒱₀ c none) E (bodyP arg2 arg3 arg4 arg5 arg6 harg6 arg7 harg7 arg8 i) Q) := by
  have h2 : ∀ y : S256x1280.Idx, (Rect.unit (s := S256x1280) ![0, 0] S256x1280.size Facts₀.inb_S256x1280_S256x1280_0_0).toLoadRect.idx y = y :=
    fun y => Rect.emb_unit_full (s := S256x1280) _ y
  have h7 : ∀ y : S1280x1024.Idx, (Rect.unit (s := S1280x1024) ![0, 0] S1280x1024.size Facts₀.inb_S1280x1024_S1280x1024_0_0).toLoadRect.idx y = y :=
    fun y => Rect.emb_unit_full (s := S1280x1024) _ y
  have h8 : ∀ y : S256x1024.Idx, (Rect.unit (s := S256x1024) ![0, 0] S256x1024.size Facts₀.inb_S256x1024_S256x1024_0_0).toLoadRect.idx y = y :=
    fun y => Rect.emb_unit_full (s := S256x1024) _ y
  unfold bodyP
  iintro ⟨H2, H3, H4, H5, H6, H7, H8⟩ Hk
  iapply (tr_decodeP c E arg3 arg4 arg7 harg7 q z w _ Q) $$ [H3 H4 H7]
  · isplitl [H3]
    · iexact H3
    isplitl [H4]
    · iexact H4
    · iexact H7
  iintro H3 H4 H7
  -- from the accumulator `startA i A` on, whichever way it was come by
  have rest : iprop(owns (c : Thread nD τ) arg2 fullShare x ∗ owns (c : Thread nD τ) arg5 fullShare s ∗ owns (c : Thread nD τ) arg6 fullShare o
        ∗ owns (c : Thread nD τ) arg7 fullShare (decodeW q z w) ∗ owns (c : Thread nD τ) arg8 fullShare (startA i A) : sProp 𝕄)
      ⊢ iprop((owns (c : Thread nD τ) arg2 fullShare x -∗ owns (c : Thread nD τ) arg5 fullShare s
            -∗ owns (c : Thread nD τ) arg6 fullShare (stepO i (stepA i A x (decodeW q z w)) s o)
            -∗ owns (c : Thread nD τ) arg7 fullShare (decodeW q z w)
            -∗ owns (c : Thread nD τ) arg8 fullShare (stepA i A x (decodeW q z w))
            -∗ Q ⟨⟩)
        -∗ wp frame (wpE (defs₀ (F := F)) 𝒱₀ c none) E (do
          let a : Vec F S256x1024 .f32 ← Prog.lift (.load arg8 (Rect.unit (s := S256x1024) ![0, 0] S256x1024.size Facts₀.inb_S256x1024_S256x1024_0_0).toLoadRect (View.loadsAt_vmem h_S256x1024))
          let x : Vec F S256x1280 .bf16 ← Prog.lift (.load arg2 (Rect.unit (s := S256x1280) ![0, 0] S256x1280.size Facts₀.inb_S256x1280_S256x1280_0_0).toLoadRect (View.loadsAt_vmem h_S256x1280))
          let w : Vec F S1280x1024 .bf16 ← Prog.lift (.load arg7 (Rect.unit (s := S1280x1024) ![0, 0] S1280x1024.size Facts₀.inb_S1280x1024_S1280x1024_0_0).toLoadRect (View.loadsAt_vmem h_S1280x1024))
          storeA arg8 (nextA a x w)
          if _h : k0_cond2 i = 1#1 then do
            groupsP arg5 arg6 harg6 arg8 32 0 (by decide)
          else do
            pure ⟨⟩
          pure ⟨⟩) Q) := by
    iintro ⟨H2, H5, H6, H7, H8⟩ Hk
    simp only [Prog.lift, Prog.bind_op, Prog.bind_ret]
    iapply (own_load c E arg8 _ _ _ _ Q) $$ H8
    iintro H8
    iapply (own_load c E arg2 _ _ _ _ Q) $$ H2
    iintro H2
    iapply (own_load c E arg7 _ _ _ _ Q) $$ H7
    iintro H7
    simp only [h2, h7, h8]
    iapply (tr_storeA c E arg8 _ _ _ Q) $$ H8
    iintro H8
    by_cases hc : k0_cond2 i = 1#1
    · rw [dif_pos hc]
      unfold stepO
      rw [if_pos hc]
      iapply (tr_groupsP c E arg5 arg6 harg6 arg8 (stepA i A x (decodeW q z w)) s _ Q 32 0 _ o) $$ [H8 H5 H6]
      · isplitl [H8]
        · iexact H8
        isplitl [H5]
        · iexact H5
        · iexact H6
      iintro H8 H5 H6
      sl_step
      iapply Hk $$ H2 H5 H6 H7
      iexact H8
    · rw [dif_neg hc]
      unfold stepO
      rw [if_neg hc]
      simp only [pure_bind]
      sl_step
      iapply Hk $$ H2 H5 H6 H7
      iexact H8
  by_cases hf : firstW i = 1#1
  · rw [dif_pos hf]
    simp only [Prog.bind_assoc]
    iapply (tr_storeA c E arg8 _ A _ Q) $$ H8
    iintro H8
    iapply rest $$ [H2 H5 H6 H7 H8]
    · isplitl [H2]
      · iexact H2
      isplitl [H5]
      · iexact H5
      isplitl [H6]
      · iexact H6
      isplitl [H7]
      · iexact H7
      unfold startA
      rw [if_pos hf]
      iexact H8
    iintro H2 H5 H6 H7 H8
    iapply Hk $$ H2 H3 H4 H5 H6 H7
    iexact H8
  · rw [dif_neg hf]
    iapply rest $$ [H2 H5 H6 H7 H8]
    · isplitl [H2]
      · iexact H2
      isplitl [H5]
      · iexact H5
      isplitl [H6]
      · iexact H6
      isplitl [H7]
      · iexact H7
      unfold startA
      rw [if_neg hf]
      iexact H8
    iintro H2 H5 H6 H7 H8
    iapply Hk $$ H2 H3 H4 H5 H6 H7
    iexact H8

end Access

end Cert.KernelIdeal.Hand

end
-- ==== Proof.KernelIdeal.TextEq.lean ====
/- The printed body is the body of `Text.lean`: both unfold to one chain of memory operations. -/
module

public import proofs.«01_k».proof.Proof.KernelIdeal.Text
public import Idealize.ShloMosaic.Lib.Pipeline.Regions

@[expose] public section

noncomputable section

namespace Cert.KernelIdeal.Hand

open Idealize.ShloMosaic Idealize.SL.Sem

variable {F : FTy → Type} [FloatOps F]

theorem body_eq (i : grid0.Coords) (arg2 : Memref sig .tc .vmem S256x1280 .bf16) (harg2 : arg2.IsWhole) (arg3 : Memref sig .tc .vmem S1280x128 .i32) (harg3 : arg3.IsWhole)
    (arg4 : Memref sig .tc .vmem S1x128 .i32) (harg4 : arg4.IsWhole) (arg5 : Memref sig .tc .vmem S1x1024 .f32) (harg5 : arg5.IsWhole)
    (arg6 : Memref sig .tc .vmem S256x1024 .bf16) (harg6 : arg6.IsWhole) (arg7 : Memref sig .tc .vmem S1280x1024 .bf16) (harg7 : arg7.IsWhole)
    (arg8 : Memref sig .tc .vmem S256x1024 .f32) (harg8 : arg8.IsWhole) :
    cc0__body (F := F) i arg2 harg2 arg3 harg3 arg4 harg4 arg5 harg5 arg6 harg6 arg7 harg7 arg8 harg8
      = bodyP arg2 arg3 arg4 arg5 arg6 harg6 arg7 harg7 arg8 i := by
  chain_rfl

end Cert.KernelIdeal.Hand

end
-- ==== Proof.KernelIdeal.FrameRun.lean ====
/- The frame: the program runs, its arguments end unchanged and every counter ends at zero. Nothing is said
   of what the staging buffers or the scratch hold. -/
module

public import proofs.«01_k».proof.Proof.KernelIdeal.Triples
public import proofs.«01_k».proof.Proof.KernelIdeal.TextEq
public import proofs.«01_k».proof.Proof.Gen.KernelIdeal.Frame

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A whole buffer held by what it reads is held at it. -/
theorem whole_elim (c : Dev nD) (b : Ref sig .tc) (X : b.ty.Contents (Elt F)) :
    (owns (c : Thread nD τ) (Memref.whole b) fullShare X : sProp 𝕄) ⊢ ((c : Thread nD τ).loc b ↦{fullShare} X) := by
  rw [owns_whole_eq]
  iintro ⟨%f, %hf, H⟩
  subst hf
  iexact H

/-- The body the pipeline calls at point `t`, held by what each of its buffers reads. -/
theorem tr_bodyAt (c : Dev nD) (E : Set ℕ) (t : Fin cfg0.N) (x : Vec F S256x1280 .bf16) (q : Vec F S1280x128 .i32) (z : Vec F S1x128 .i32)
    (s : Vec F S1x1024 .f32) (o : Vec F S256x1024 .bf16) (w : Vec F S1280x1024 .bf16) (A : Vec F S256x1024 .f32) (Q : PUnit → sProp 𝕄) :
    iprop(owns (c : Thread nD τ) (win0_0.stage (cfg0.slots t 0)) fullShare x ∗ owns (c : Thread nD τ) (win0_1.stage (cfg0.slots t 1)) fullShare q
        ∗ owns (c : Thread nD τ) (win0_2.stage (cfg0.slots t 2)) fullShare z
        ∗ owns (c : Thread nD τ) (win0_3.stage (cfg0.slots t 3)) fullShare s ∗ owns (c : Thread nD τ) (win0_4.stage (cfg0.slots t 4)) fullShare o
        ∗ ((c : Thread nD τ).loc cc0_scratch0 ↦{fullShare} w) ∗ ((c : Thread nD τ).loc cc0_scratch1 ↦{fullShare} A) : sProp 𝕄)
      ⊢ iprop((owns (c : Thread nD τ) (win0_0.stage (cfg0.slots t 0)) fullShare x -∗ owns (c : Thread nD τ) (win0_1.stage (cfg0.slots t 1)) fullShare q
            -∗ owns (c : Thread nD τ) (win0_2.stage (cfg0.slots t 2)) fullShare z
            -∗ owns (c : Thread nD τ) (win0_3.stage (cfg0.slots t 3)) fullShare s
            -∗ owns (c : Thread nD τ) (win0_4.stage (cfg0.slots t 4)) fullShare (stepO (grid0.coords t) (stepA (grid0.coords t) A x (decodeW q z w)) s o)
            -∗ ((c : Thread nD τ).loc cc0_scratch0 ↦{fullShare} decodeW q z w)
            -∗ ((c : Thread nD τ).loc cc0_scratch1 ↦{fullShare} stepA (grid0.coords t) A x (decodeW q z w))
            -∗ Q ⟨⟩)
        -∗ wp frame (wpE (defs₀ (F := F)) 𝒱₀ c none) E (Gen.bodyAt0 t) Q) := by
  unfold Gen.bodyAt0
  rw [body_eq]
  have h := tr_bodyP c E (win0_0.stage (cfg0.slots t 0)) (win0_1.stage (cfg0.slots t 1)) (win0_2.stage (cfg0.slots t 2)) (win0_3.stage (cfg0.slots t 3))
    (win0_4.stage (cfg0.slots t 4)) (Gen.hstage0_4 ((cfg0.slots t 4).cast Gen.nbuf0_4)) (Memref.whole cc0_scratch0) (Memref.isWhole_whole _)
    (Memref.whole cc0_scratch1) (grid0.coords t) x q z s o w A Q
  iintro ⟨H0, H1, H2, H3, H4, H7, H8⟩ Hk
  iapply h $$ [H0 H1 H2 H3 H4 H7 H8]
  · isplitl [H0]
    · iexact H0
    isplitl [H1]
    · iexact H1
    isplitl [H2]
    · iexact H2
    isplitl [H3]
    · iexact H3
    isplitl [H4]
    · iexact H4
    isplitl [H7]
    · rw [owns_whole_eq]; iexists w; isplitr; · ipureintro; rfl
      iexact H7
    · rw [owns_whole_eq]; iexists A; isplitr; · ipureintro; rfl
      iexact H8
  iintro H0 H1 H2 H3 H4 H7 H8
  ihave H7 := (whole_elim c cc0_scratch0 _) $$ H7
  ihave H8 := (whole_elim c cc0_scratch1 _) $$ H8
  iapply Hk $$ H0 H1 H2 H3 H4 H7 H8

variable (m : (ℓ : Loc nD τ sig) → Buf (Elt F) ℓ) (ρ : Dev nD → PrngReg)

/-- The proof data: the arrays as the region finds them, the scratch at anything. -/
def dats (_ : Fin 1) (c : Dev nD) : Dat τ (Elt F) Unit ℕ (UR sig nD τ) ℕ cfg0 c where
  A w := Gen.V m c (Pipeline.arrRef spec0 w)
  after w t := Dat.unnamed w t
  Φ _ := Pipeline.ΦA spec0 c
  q _ := fullShare
  owed _ := 0

theorem body_obligation (c : Dev nD) : BodyObligationLoose (dats m 0 c) defs₀ 𝒱₀ () Set.univ (fun _ => true) := fun t => by
  rw [Gen.bigSep_W0]
  change iprop(Pipeline.ΦA spec0 c ∗ (dats m 0 c).owesAt () t.castSucc ∗ (∃ X, owns (c : Thread nD τ) (win0_0.stage (cfg0.slots t 0)) fullShare X)
        ∗ (∃ X, owns (c : Thread nD τ) (win0_1.stage (cfg0.slots t 1)) fullShare X)
        ∗ (∃ X, owns (c : Thread nD τ) (win0_2.stage (cfg0.slots t 2)) fullShare X)
        ∗ (∃ X, owns (c : Thread nD τ) (win0_3.stage (cfg0.slots t 3)) fullShare X)
        ∗ (∃ X, owns (c : Thread nD τ) (win0_4.stage (cfg0.slots t 4)) fullShare X))
    ⊢ wp frame (wpE (defs₀ (F := F)) 𝒱₀ c none) Set.univ (Gen.bodyAt0 t) (fun _ =>
      iprop(Pipeline.ΦA spec0 c ∗ (dats m 0 c).owesAt () t.castSucc ∗ (∃ X, owns (c : Thread nD τ) (win0_0.stage (cfg0.slots t 0)) fullShare X)
        ∗ (∃ X, owns (c : Thread nD τ) (win0_1.stage (cfg0.slots t 1)) fullShare X)
        ∗ (∃ X, owns (c : Thread nD τ) (win0_2.stage (cfg0.slots t 2)) fullShare X)
        ∗ (∃ X, owns (c : Thread nD τ) (win0_3.stage (cfg0.slots t 3)) fullShare X)
        ∗ (∃ X, owns (c : Thread nD τ) (win0_4.stage (cfg0.slots t 4)) fullShare X)))
  unfold Pipeline.ΦA
  rw [Gen.scopedRest0_eq]
  iintro ⟨⟨⟨⟨%w, H7⟩, ⟨%A, H8⟩⟩, Hr⟩, Ho, ⟨%x, H0⟩, ⟨%q, H1⟩, ⟨%z, H2⟩, ⟨%s, H3⟩, ⟨%o, H4⟩⟩
  iapply (tr_bodyAt c Set.univ t x q z s o w A _) $$ [H0 H1 H2 H3 H4 H7 H8]
  · isplitl [H0]
    · iexact H0
    isplitl [H1]
    · iexact H1
    isplitl [H2]
    · iexact H2
    isplitl [H3]
    · iexact H3
    isplitl [H4]
    · iexact H4
    isplitl [H7]
    · iexact H7
    · iexact H8
  iintro H0 H1 H2 H3 H4 H7 H8
  isplitl [H7 H8 Hr]
  · isplitl [H7 H8]
    · isplitl [H7]
      · iexists _; iexact H7
      · iexists _; iexact H8
    · iexact Hr
  isplitl [Ho]
  · iexact Ho
  isplitl [H0]
  · iexists _; iexact H0
  isplitl [H1]
  · iexists _; iexact H1
  isplitl [H2]
  · iexists _; iexact H2
  isplitl [H3]
  · iexists _; iexact H3
  · iexists _; iexact H4

/-- The buffer the lines after the region write. -/
def tailT : Finset (Ref sig .tc) := {main_v4}

theorem tail_writes : ∀ ops ∈ ([Gen.hostOps1] : List (List (HloOp τ sig (Elt F)))), ∀ op ∈ ops, ∀ b : Ref sig .tc, Proc.devRef .tc b ∈ op.writes → b ∈ tailT := by
  intro ops hops op hop b hb
  simp only [List.mem_cons, List.mem_nil_iff, or_false] at hops
  rcases hops with rfl
  simp only [Gen.hostOps1, List.mem_cons, List.mem_nil_iff, or_false] at hop
  rcases hop with rfl
  simp only [StableHlo.reshape_writes, Finset.mem_singleton] at hb
  exact Finset.mem_singleton.mpr (Proc.devRef_injective (τ := τ) _ hb)

/-- What the frame says of a final state: the arguments as launched, every counter at zero. -/
def FrameQ (r : PUnit × MemSt nD τ sig (Elt F)) : Prop :=
  (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0

set_option backward.isDefEq.respectTransparency.types false in
/-- THE FRAME. -/
theorem frame_run : θ_run defs (onTc (τ := τ) (main (F := F))) ⟨m, fun _ => 0, ρ⟩ (FrameQ m) :=
  Pipeline.θ_run_frame_around_T_forget cfgs (dats m) (0 : Fin 1) Gen.launch0 defs₀ 𝒱₀ (fun _ => true) tailT m ρ main
    (hbody := body_obligation m)
    (hshare := fun c => (dats m 0 c).share_full fun _ => rfl) (howed := fun _ _ => rfl)
    (V₀ := Gen.V0 m) (opss := [Gen.hostOps1]) (hsub := Gen.sfx_sub) (hfresh := Gen.sfx_fresh) (hkeep := Gen.sfx_keeps) (hT := tail_writes)
    (hmain := Gen.hmain m 𝒱₀) (hA := fun _ _ => rfl) (hΦ := fun _ _ => rfl)
    (Q' := FrameQ m)
    (hQ' := fun r h => ⟨fun c => ⟨
      ((h.1 c).2 main_arg0 (Finset.mem_sdiff.mpr ⟨Pipeline.mem_restRefs_of main_arg0 (by decide) (by decide), by decide⟩)).trans (Gen.V_main_arg0 m c),
      (Pipeline.RDat.FramePostR.arr_in h.1 c 1 rfl).trans (Gen.V_main_arg1 m c),
      ((h.1 c).2 main_arg2 (Finset.mem_sdiff.mpr ⟨Pipeline.mem_restRefs_of main_arg2 (by decide) (by decide), by decide⟩)).trans (Gen.V_main_arg2 m c),
      ((h.1 c).2 main_arg3 (Finset.mem_sdiff.mpr ⟨Pipeline.mem_restRefs_of main_arg3 (by decide) (by decide), by decide⟩)).trans (Gen.V_main_arg3 m c)⟩, h.2⟩)

end Cert.KernelIdeal.Hand

end
-- ==== Proof.Math.Words.lean ====
/- The packed words: the eight four-bit fields of a 32-bit word, as a reader finds them by shifting and masking
   the word itself, and as a kernel finds them two rows at a time in half words biased to a float's bits. -/
module

public import Idealize.ShloMosaic.PureOps.Ideal.Laws
public import Mathlib.Tactic.IntervalCases
public import Mathlib.Tactic.NormNum

@[expose] public section

noncomputable section

namespace Cert.Awq

open Idealize.ShloMosaic

/-- Field `j` of a packed word: its bits `4j` to `4j + 3`. -/
def nib (w : BitVec 32) (j : ℕ) : BitVec 4 := w.extractLsb' (4 * j) 4

/-- Its value, as a real number. -/
def nibR (w : BitVec 32) (j : ℕ) : ℝ := ((nib w j).toNat : ℝ)

theorem nib_getLsbD (w : BitVec 32) (j i : ℕ) : (nib w j).getLsbD i = (decide (i < 4) && w.getLsbD (4 * j + i)) := by
  unfold nib; rw [BitVec.getLsbD_extractLsb']

/-- The mask 15 keeps the four low bits. -/
theorem getLsbD_15 (i : ℕ) : (15#32).getLsbD i = decide (i < 4) := by
  by_cases h : i < 32
  · interval_cases i <;> decide
  · rw [BitVec.getLsbD_of_ge _ _ (by omega)]; simp; omega

/-- A logical shift and the mask read a field. -/
theorem ushr_and (w : BitVec 32) (j : ℕ) (hj : j < 8) : (w >>> (4 * j)) &&& 15#32 = (nib w j).setWidth 32 := by
  apply BitVec.eq_of_getLsbD_eq
  intro i hi
  rw [BitVec.getLsbD_and, BitVec.getLsbD_ushiftRight, getLsbD_15, BitVec.getLsbD_setWidth, nib_getLsbD]
  by_cases h : i < 4 <;> simp [h, hi]

/-- An arithmetic shift and the mask read the same field. -/
theorem sshr_and (w : BitVec 32) (j : ℕ) (hj : j < 8) : (w.sshiftRight (4 * j)) &&& 15#32 = (nib w j).setWidth 32 := by
  apply BitVec.eq_of_getLsbD_eq
  intro i hi
  rw [BitVec.getLsbD_and, BitVec.getLsbD_sshiftRight, getLsbD_15, BitVec.getLsbD_setWidth, nib_getLsbD]
  by_cases h : i < 4
  · have : 4 * j + i < 32 := by omega
    simp [h, hi, this]
  · simp [h]

theorem toInt_nib (b : BitVec 4) : (b.setWidth 32).toInt = (b.toNat : ℤ) := by
  revert b; decide

/-- The field, biased to the half word whose bits are the float 128 plus the field. -/
def biased (n : BitVec 4) : BitVec 16 := n.setWidth 16 ||| 0x4300#16

theorem getLsbD_bias (i : ℕ) : (0x43004300#32).getLsbD i = (decide (i < 32) && (0x4300#16).getLsbD (i % 16)) := by
  by_cases h : i < 32
  · interval_cases i <;> decide
  · rw [BitVec.getLsbD_of_ge _ _ (by omega)]; simp [h]

theorem getLsbD_nibbles (i : ℕ) : (0x000F000F#32).getLsbD i = (decide (i < 32) && decide (i % 16 < 4)) := by
  by_cases h : i < 32
  · interval_cases i <;> decide
  · rw [BitVec.getLsbD_of_ge _ _ (by omega)]; simp [h]

theorem getLsbD_low (i : ℕ) : (65535#32).getLsbD i = decide (i < 16) := by
  by_cases h : i < 32
  · interval_cases i <;> decide
  · rw [BitVec.getLsbD_of_ge _ _ (by omega)]; simp; omega

theorem getLsbD_high (i : ℕ) : (4294901760#32).getLsbD i = (decide (i < 32) && decide (16 ≤ i)) := by
  by_cases h : i < 32
  · interval_cases i <;> decide
  · rw [BitVec.getLsbD_of_ge _ _ (by omega)]; simp [h]

/-- One half of a word of half words, shifted, masked and biased, is the biased field of that half. -/
theorem half_field (src : BitVec 32) (j h : ℕ) (hj : j < 4) (hh : h < 2) :
    ((((src >>> (4 * j)) &&& 983055#32) ||| 1124090624#32)).extractLsb' (16 * h) 16 = biased (nib src (4 * h + j)) := by
  apply BitVec.eq_of_getLsbD_eq
  intro i hi
  have e1 : (16 * h + i) % 16 = i := by omega
  have e2 : 16 * h + i < 32 := by omega
  have e3 : 4 * j + (16 * h + i) = 4 * (4 * h + j) + i := by omega
  rw [BitVec.getLsbD_extractLsb', BitVec.getLsbD_or, BitVec.getLsbD_and, BitVec.getLsbD_ushiftRight, getLsbD_nibbles, getLsbD_bias,
    biased, BitVec.getLsbD_or, BitVec.getLsbD_setWidth, nib_getLsbD, e1, e3]
  by_cases h4 : i < 4 <;> simp [h4, hi, e2]

/-- The low halves of two words, side by side: a half's fields are the low fields of its word. -/
theorem nib_low (e o : BitVec 32) (j h : ℕ) (hj : j < 4) (hh : h < 2) :
    nib ((e &&& 65535#32) ||| (o <<< 16)) (4 * h + j) = nib (if h = 0 then e else o) j := by
  apply BitVec.eq_of_getLsbD_eq
  intro i hi
  rw [nib_getLsbD, nib_getLsbD, BitVec.getLsbD_or, BitVec.getLsbD_and, BitVec.getLsbD_shiftLeft, getLsbD_low]
  rcases (show h = 0 ∨ h = 1 by omega) with rfl | rfl
  · have : 4 * j + i < 16 := by omega
    simp [hi, this]
  · have e : 4 * (4 * 1 + j) + i = 16 + (4 * j + i) := by omega
    have h2 : 16 + (4 * j + i) < 32 := by omega
    have h3 : ¬ (16 + (4 * j + i) < 16) := by omega
    simp [hi, e, h2, h3]

/-- The high halves of two words, side by side: a half's fields are the high fields of its word. -/
theorem nib_high (e o : BitVec 32) (j h : ℕ) (hj : j < 4) (hh : h < 2) :
    nib ((e >>> 16) ||| (o &&& 4294901760#32)) (4 * h + j) = nib (if h = 0 then e else o) (4 + j) := by
  apply BitVec.eq_of_getLsbD_eq
  intro i hi
  rw [nib_getLsbD, nib_getLsbD, BitVec.getLsbD_or, BitVec.getLsbD_and, BitVec.getLsbD_ushiftRight, getLsbD_high]
  rcases (show h = 0 ∨ h = 1 by omega) with rfl | rfl
  · have e1 : 16 + (4 * j + i) = 4 * (4 + j) + i := by omega
    have h3 : ¬ (16 ≤ 4 * j + i) := by omega
    simp [hi, e1, h3]
  · have e5 : 4 * (4 * 1 + j) + i = 4 * (4 + j) + i := by omega
    have h2 : 4 * (4 + j) + i < 32 := by omega
    have h3 : 16 ≤ 4 * (4 + j) + i := by omega
    have h4 : 32 ≤ 16 + (4 * (4 + j) + i) := by omega
    simp [hi, e5, h2, h3, BitVec.getLsbD_of_ge e _ h4]

/-- The biased field read as a float is 128 plus the field. -/
theorem ofBits_biased (n : BitVec 4) : Ideal.ofBits .bf16 (biased n) = (((128 + n.toNat : ℕ) : ℝ) : EReal) := by
  have h : ∀ k : Fin 16, Ideal.ofBits .bf16 (biased (BitVec.ofFin k)) = (((128 + k.val : ℕ) : ℝ) : EReal) := by
    intro k
    fin_cases k <;> (simp [Ideal.ofBits, Ideal.ieee, biased, -EReal.coe_mul]; try norm_num)
  exact h n.toFin

/-- 128 added to a field's word is 128 plus the field. -/
theorem toInt_nib_add (b : BitVec 4) : (b.setWidth 32 + 128#32).toInt = ((128 + b.toNat : ℕ) : ℤ) := by
  revert b; decide

end Cert.Awq

end
-- ==== Proof.KernelIdeal.Decode.lean ====
/- What one point decodes: the weights' scratch ends holding, in column `128 j + l` of row `r`, field `j` of the packed
   word at (r, l) less field `j` of the packed zero points at `l`. -/
module

public import proofs.«01_k».proof.Proof.Math.Words
public import proofs.«01_k».proof.Proof.KernelIdeal.Triples
public import Idealize.ShloMosaic.Lib.BitcastPair
public import Idealize.ShloMosaic.Lib.ValueIdxCore
public import Idealize.ShloMosaic.Lib.Pointwise
public import Idealize.ShloMosaic.Lib.MatmulPlain

@[expose] public section

noncomputable section

namespace Cert.KernelIdeal.Hand

open Idealize.ShloMosaic hiding ix2
open Idealize.ShloMosaic.ValueIdx Cert.KernelIdeal Cert.KernelIdeal.Facts₀ Cert.KernelIdeal.Facts Cert.Awq

/-- A window's entry, at an index inside the window. -/
theorem put_in {s : Shape} {α : Type} (x : s.Idx → α) (off size : Fin s.rank → ℕ) (w : ((a : Fin s.rank) → Fin (size a)) → α)
    (y : s.Idx) (h : ∀ a, off a ≤ (y a).val ∧ (y a).val < off a + size a) :
    VecWindow.put x off size w y = w (fun a => ⟨(y a).val - off a, by have := h a; omega⟩) := by
  unfold VecWindow.put; rw [dif_pos h]; rfl

/-- Outside the window nothing changes. -/
theorem put_out {s : Shape} {α : Type} (x : s.Idx → α) (off size : Fin s.rank → ℕ) (w : ((a : Fin s.rank) → Fin (size a)) → α)
    (y : s.Idx) (h : ¬ ∀ a, off a ≤ (y a).val ∧ (y a).val < off a + size a) :
    VecWindow.put x off size w y = x y := by
  unfold VecWindow.put; rw [dif_neg h]

/-- The decoded field at (r, l). -/
theorem fieldW_apply (src : IVec S640x128 32) (zw : IVec S1x128 32) (js jz : ℕ) (hjs : js < 4) (hjz : jz < 8)
    (r : Fin 1280) (l : Fin 128) :
    fieldW (F := Ideal) src zw (BitVec.ofNat 32 (4 * js)) (BitVec.ofNat 32 (4 * jz)) (ix2 r l)
      = ((nibR (src (ix2 ⟨r.val / 2, by omega⟩ l)) (4 * (r.val % 2) + js) - nibR (zw (ix2 0 l)) jz : ℝ) : EReal) := by
  have e1 : ∀ x : BitVec 32, IntOp.shrui .vector x (BitVec.ofNat 32 (4 * js)) = x >>> (4 * js) := by
    intro x
    have : (BitVec.ofNat 32 (4 * js)).toNat = 4 * js := by rw [BitVec.toNat_ofNat]; omega
    unfold IntOp.shrui
    rw [if_pos (by omega), BitVec.ushiftRight_eq', this]
  have e2 : ∀ x : BitVec 32, IntOp.shrui .vector x (BitVec.ofNat 32 (4 * jz)) = x >>> (4 * jz) := by
    intro x
    have : (BitVec.ofNat 32 (4 * jz)).toNat = 4 * jz := by rw [BitVec.toNat_ofNat]; omega
    unfold IntOp.shrui
    rw [if_pos (by omega), BitVec.ushiftRight_eq', this]
  unfold fieldW
  rw [shapeCast_id, shapeCast_id]
  show Ideal.ofBits .bf16 _ - broadcastTo S1280x128 _ _ _ = _
  rw [bitcast_32_16]
  have hz : ∀ (x : FVec Ideal S1x128 .bf16), broadcastTo S1280x128 x broadcasts_S1x128_S1280x128 (ix2 r l) = x (ix2 0 l) := by
    intro x
    unfold broadcastTo
    congr 1
    funext a
    fin_cases a <;> rfl
  rw [hz]
  have hi : ∀ h, (bitcasts_S640x128_w32_S1280x128_w16 : S640x128.Bitcasts 32 S1280x128 16).srcIdx (ix2 r l) (S1280x128.row (ix2 r l) / 2) h
      = ix2 ⟨r.val / 2, by omega⟩ l := by
    intro h
    funext a
    fin_cases a <;> rfl
  rw [hi]
  show Ideal.ofBits .bf16 (((IntOp.shrui .vector _ (BitVec.ofNat 32 (4 * js)) &&& 983055#32) ||| 1124090624#32).extractLsb' _ 16)
    - ((((IntOp.shrui .vector _ (BitVec.ofNat 32 (4 * jz)) &&& 15#32) + 128#32).toInt : ℝ) : EReal) = _
  rw [e1, e2, ushr_and _ _ hjz, toInt_nib_add]
  have hrow : S1280x128.row (ix2 r l) = r.val := rfl
  rw [hrow, half_field _ js (r.val % 2) hjs (by omega), ofBits_biased, ← EReal.coe_sub]
  congr 1
  unfold nibR
  push_cast
  ring

/-- The even rows' words, and the odd rows'. -/
theorem evenR_apply (q : Vec Ideal S1280x128 .i32) (ρ : Fin 640) (l : Fin 128) :
    evenR q (ix2 ρ l) = q (ix2 ⟨2 * ρ.val, by omega⟩ l) := by
  unfold evenR
  congr 1
  funext a
  fin_cases a
  · apply Fin.ext; show 0 + 2 * ρ.val = 2 * ρ.val; omega
  · apply Fin.ext; show 0 + 1 * l.val = l.val; omega

theorem oddR_apply (q : Vec Ideal S1280x128 .i32) (ρ : Fin 640) (l : Fin 128) :
    oddR q (ix2 ρ l) = q (ix2 ⟨2 * ρ.val + 1, by omega⟩ l) := by
  unfold oddR
  congr 1
  funext a
  fin_cases a
  · apply Fin.ext; show 1 + 2 * ρ.val = 2 * ρ.val + 1; omega
  · apply Fin.ext; show 0 + 1 * l.val = l.val; omega

/-- The word a row's fields come from. -/
theorem pick_row (q : Vec Ideal S1280x128 .i32) (r : Fin 1280) (l : Fin 128) :
    (if r.val % 2 = 0 then evenR q (ix2 ⟨r.val / 2, by omega⟩ l) else oddR q (ix2 ⟨r.val / 2, by omega⟩ l)) = q (ix2 r l) := by
  rcases (show r.val % 2 = 0 ∨ r.val % 2 = 1 by omega) with h | h
  · rw [if_pos h, evenR_apply]
    congr 2
    apply Fin.ext; show 2 * (r.val / 2) = r.val; omega
  · rw [if_neg (by omega), oddR_apply]
    congr 2
    apply Fin.ext; show 2 * (r.val / 2) + 1 = r.val; omega

/-- A field below the fourth. -/
theorem fieldLo_apply (q : Vec Ideal S1280x128 .i32) (z : Vec Ideal S1x128 .i32) (j : ℕ) (hj : j < 4) (r : Fin 1280) (l : Fin 128) :
    fieldW (F := Ideal) (loW (evenR q) (oddR q)) z (BitVec.ofNat 32 (4 * j)) (BitVec.ofNat 32 (4 * j)) (ix2 r l)
      = ((nibR (q (ix2 r l)) j - nibR (z (ix2 0 l)) j : ℝ) : EReal) := by
  rw [fieldW_apply _ _ j j hj (by omega)]
  have e : nib (loW (evenR q) (oddR q) (ix2 ⟨r.val / 2, by omega⟩ l)) (4 * (r.val % 2) + j) = nib (q (ix2 r l)) j := by
    rw [← pick_row q r l]
    exact nib_low _ _ j (r.val % 2) hj (by omega)
  unfold nibR
  rw [e]

/-- A field from the fourth on. -/
theorem fieldHi_apply (q : Vec Ideal S1280x128 .i32) (z : Vec Ideal S1x128 .i32) (j : ℕ) (hj : j < 4) (r : Fin 1280) (l : Fin 128) :
    fieldW (F := Ideal) (hiW (evenR q) (oddR q)) z (BitVec.ofNat 32 (4 * j)) (BitVec.ofNat 32 (4 * (4 + j))) (ix2 r l)
      = ((nibR (q (ix2 r l)) (4 + j) - nibR (z (ix2 0 l)) (4 + j) : ℝ) : EReal) := by
  rw [fieldW_apply _ _ j (4 + j) hj (by omega)]
  have e : nib (hiW (evenR q) (oddR q) (ix2 ⟨r.val / 2, by omega⟩ l)) (4 * (r.val % 2) + j) = nib (q (ix2 r l)) (4 + j) := by
    rw [← pick_row q r l]
    exact nib_high _ _ j (r.val % 2) hj (by omega)
  unfold nibR
  rw [e]

/-- The lane of a column, and of a column group. -/
def laneF (c : Fin 1024) : Fin 128 := ⟨c.val % 128, by omega⟩

theorem putW_in (j : ℕ) (w : FVec Ideal S1280x128 .bf16) (o : Vec Ideal S1280x1024 .bf16) (r : Fin 1280) (c : Fin 1024) (h : c.val / 128 = j) :
    putW j w o (ix2 r c) = w (ix2 r (laneF c)) := by
  unfold putW
  rw [put_in]
  · congr 1
    funext a
    fin_cases a
    · apply Fin.ext; show r.val - 0 = r.val; omega
    · apply Fin.ext; show c.val - 128 * j = c.val % 128; omega
  · intro a
    fin_cases a
    · show 0 ≤ r.val ∧ r.val < 0 + 1280; omega
    · show 128 * j ≤ c.val ∧ c.val < 128 * j + 128; omega

theorem putW_ne (j : ℕ) (w : FVec Ideal S1280x128 .bf16) (o : Vec Ideal S1280x1024 .bf16) (r : Fin 1280) (c : Fin 1024) (h : c.val / 128 ≠ j) :
    putW j w o (ix2 r c) = o (ix2 r c) := by
  unfold putW
  rw [put_out]
  intro ha
  have : 128 * j ≤ c.val ∧ c.val < 128 * j + 128 := ha 1
  omega

/-- The decoded weight in column `128 j + l`. -/
theorem decodeW_apply (q : Vec Ideal S1280x128 .i32) (z : Vec Ideal S1x128 .i32) (o : Vec Ideal S1280x1024 .bf16) (r : Fin 1280) (c : Fin 1024) :
    decodeW q z o (ix2 r c) = ((nibR (q (ix2 r (laneF c))) (c.val / 128) - nibR (z (ix2 0 (laneF c))) (c.val / 128) : ℝ) : EReal) := by
  have hc : c.val / 128 < 8 := by omega
  unfold decodeW
  by_cases h7 : c.val / 128 = 7
  · rw [putW_in 7 _ _ _ _ h7, h7]; exact fieldHi_apply q z 3 (by decide) r _
  rw [putW_ne 7 _ _ _ _ h7]
  by_cases h6 : c.val / 128 = 6
  · rw [putW_in 6 _ _ _ _ h6, h6]; exact fieldHi_apply q z 2 (by decide) r _
  rw [putW_ne 6 _ _ _ _ h6]
  by_cases h5 : c.val / 128 = 5
  · rw [putW_in 5 _ _ _ _ h5, h5]; exact fieldHi_apply q z 1 (by decide) r _
  rw [putW_ne 5 _ _ _ _ h5]
  by_cases h4 : c.val / 128 = 4
  · rw [putW_in 4 _ _ _ _ h4, h4]; exact fieldHi_apply q z 0 (by decide) r _
  rw [putW_ne 4 _ _ _ _ h4]
  by_cases h3 : c.val / 128 = 3
  · rw [putW_in 3 _ _ _ _ h3, h3]; exact fieldLo_apply q z 3 (by decide) r _
  rw [putW_ne 3 _ _ _ _ h3]
  by_cases h2 : c.val / 128 = 2
  · rw [putW_in 2 _ _ _ _ h2, h2]; exact fieldLo_apply q z 2 (by decide) r _
  rw [putW_ne 2 _ _ _ _ h2]
  by_cases h1 : c.val / 128 = 1
  · rw [putW_in 1 _ _ _ _ h1, h1]; exact fieldLo_apply q z 1 (by decide) r _
  rw [putW_ne 1 _ _ _ _ h1]
  have h0 : c.val / 128 = 0 := by omega
  rw [putW_in 0 _ _ _ _ h0, h0]; exact fieldLo_apply q z 0 (by decide) r _

/-! ## The accumulator -/

/-- The accumulator a point leaves: what it started from and the point's products. -/
theorem stepA_apply (i : grid0.Coords) (a : Vec Ideal S256x1024 .f32) (x : Vec Ideal S256x1280 .bf16) (w : Vec Ideal S1280x1024 .bf16)
    (r : Fin 256) (c : Fin 1024) :
    stepA i a x w (ix2 r c) = startA i a (ix2 r c) + ∑ k : Fin 1280, x (ix2 r k) * w (ix2 k c) := by
  unfold stepA nextA
  rw [shapeCast_id, shapeCast_id]
  refine congrArg (fun e : EReal => startA i a (ix2 r c) + e)
    ((Ideal.matmul_plain_apply (M := 256) (K := 1280) (N := 1024) none (x : FVec Ideal S256x1280 .bf16) (w : FVec Ideal S1280x1024 .bf16)
      (constant S256x1024 .f32 0x00000000#32) r c).trans ?_)
  show Ideal.ofBits .f32 0x00000000#32 + _ = _
  rw [Ideal.ofBits_zero_f32, zero_add]

theorem firstW_iff (i : grid0.Coords) : firstW i = 1#1 ↔ (i 1).val = 0 := by
  have h : (i 1).val < 9 := (i 1).isLt
  unfold firstW
  generalize (i 1).val = n at *
  interval_cases n <;> decide

theorem cond2_iff (i : grid0.Coords) : k0_cond2 i = 1#1 ↔ (i 1).val = 8 := by
  have h : (i 1).val < 9 := (i 1).isLt
  unfold k0_cond2
  generalize (i 1).val = n at *
  interval_cases n <;> decide

/-- What a point starts from: nothing at the first of a reduction, else what the one before left. -/
theorem startA_apply (i : grid0.Coords) (a : Vec Ideal S256x1024 .f32) (r : Fin 256) (c : Fin 1024) :
    startA i a (ix2 r c) = if (i 1).val = 0 then (0 : EReal) else a (ix2 r c) := by
  unfold startA
  by_cases h : (i 1).val = 0
  · rw [if_pos h, if_pos ((firstW_iff i).mpr h), shapeCast_id]
    show Ideal.ofBits .f32 0x00000000#32 = 0
    exact Ideal.ofBits_zero_f32
  · rw [if_neg h, if_neg (fun e => h ((firstW_iff i).mp e))]

end Cert.KernelIdeal.Hand

end
-- ==== Proof.KernelIdeal.Epilogue.lean ====
/- What the epilogue writes: the result's column `C` of a row is the accumulator's column `128 f + C / 8` of it, where
   `f` is the bit field that the column's residue modulo 8 is packed in, times the column's scale. -/
module

public import proofs.«01_k».proof.Proof.KernelIdeal.Decode

@[expose] public section

noncomputable section

namespace Cert.KernelIdeal.Hand

open Idealize.ShloMosaic hiding ix2
open Idealize.ShloMosaic.ValueIdx Cert.KernelIdeal Cert.KernelIdeal.Facts₀ Cert.KernelIdeal.Facts Cert.Awq

/-! ## The index words -/

/-- An index to look at: what `remV`, `divV` and `wrapV` do is the same at each. -/
def at0 : S8x128.Idx := ix2 0 0

theorem remV_small (x : IVec S8x128 32) (y : S8x128.Idx) (n : ℕ) (hn : n < 256) (h : x y = BitVec.ofNat 32 n) :
    remV x y = BitVec.ofNat 32 (n % 8) := by
  have e : remV x y = remV (fun _ => x y) at0 := rfl
  have hall : ∀ k : Fin 256, remV (fun _ => BitVec.ofNat 32 k.val) at0 = BitVec.ofNat 32 (k.val % 8) := by decide +kernel
  rw [e, h]
  exact hall ⟨n, hn⟩

theorem divV_small (x : IVec S8x128 32) (y : S8x128.Idx) (n : ℕ) (hn : n < 256) (h : x y = BitVec.ofNat 32 n) :
    divV x y = BitVec.ofNat 32 (n / 8) := by
  have e : divV x y = divV (fun _ => x y) at0 := rfl
  have hall : ∀ k : Fin 256, divV (fun _ => BitVec.ofNat 32 k.val) at0 = BitVec.ofNat 32 (k.val / 8) := by decide +kernel
  rw [e, h]
  exact hall ⟨n, hn⟩

theorem wrapV_small (x : IVec S8x128 32) (y : S8x128.Idx) (n : ℕ) (hn : n < 256) (h : x y = BitVec.ofNat 32 n) :
    wrapV x y = BitVec.ofNat 32 n := by
  have hall : ∀ k : Fin 256, Scalar.select (IntOp.cmpi .slt (BitVec.ofNat 32 k.val) 0#32) (BitVec.ofNat 32 k.val + 128#32) (BitVec.ofNat 32 k.val)
      = BitVec.ofNat 32 k.val := by decide +kernel
  unfold wrapV
  rw [shapeCast_comp, shapeCast_id]
  show Scalar.select (IntOp.cmpi .slt (x y) 0#32) (x y + 128#32) (x y) = _
  rw [h]
  exact hall ⟨n, hn⟩

theorem laneV_apply (a : Fin 8) (b : Fin 128) : laneV (ix2 a b) = BitVec.ofNat 32 b.val := by
  show BitVec.ofNat 32 (0 * 128 + b.val) = _
  rw [Nat.zero_mul, Nat.zero_add]

theorem resV_apply (a : Fin 8) (b : Fin 128) : resV (ix2 a b) = BitVec.ofNat 32 (b.val % 8) :=
  remV_small _ _ b.val (by omega) (laneV_apply a b)

theorem idxA_apply (p : ℕ) (hp : p < 8) (a : Fin 8) (b : Fin 128) :
    idxA (BitVec.ofNat 32 p) (ix2 a b) = BitVec.ofNat 32 (16 * ((b.val % 8 + 8 - p) % 8) + b.val / 8) := by
  have hsub : ∀ u q : Fin 8, BitVec.ofNat 32 u.val - BitVec.ofNat 32 q.val + 8#32 = BitVec.ofNat 32 (u.val + 8 - q.val) := by decide +kernel
  unfold idxA
  refine wrapV_small _ _ _ (by omega) ?_
  show 16#32 * remV _ _ + divV _ _ = _
  rw [remV_small _ _ (b.val % 8 + 8 - p) (by omega), divV_small _ _ b.val (by omega) (laneV_apply a b), BitVec.ofNat_add, BitVec.ofNat_mul]
  show resV (ix2 a b) - BitVec.ofNat 32 p + 8#32 = _
  rw [resV_apply]
  exact hsub ⟨b.val % 8, by omega⟩ ⟨p, hp⟩

theorem idxB_apply (t : ℕ) (ht : t < 8) (a : Fin 8) (b : Fin 128) :
    idxB (BitVec.ofNat 32 t) (ix2 a b) = BitVec.ofNat 32 (8 * (b.val / 8) + (t + b.val) % 8) := by
  unfold idxB
  refine wrapV_small _ _ _ (by omega) ?_
  show 8#32 * divV _ _ + remV _ _ = _
  rw [remV_small _ _ (t + b.val) (by omega), divV_small _ _ b.val (by omega) (laneV_apply a b), BitVec.ofNat_add, BitVec.ofNat_mul]
  show BitVec.ofNat 32 t + laneV (ix2 a b) = _
  rw [laneV_apply, BitVec.ofNat_add]

/-! ## The gathers and the rotations -/

/-- A gather along the lanes by an index vector whose word is known. -/
theorem gather_apply {α : Type} (x : S8x128.Idx → α) (idx : IVec S8x128 32) (a : Fin 8) (b : Fin 128) (n : ℕ) (hn : n < 128)
    (h : idx (ix2 a b) = BitVec.ofNat 32 n) : dynamicGather 1 x idx (ix2 a b) = x (ix2 a ⟨n, hn⟩) := by
  unfold dynamicGather
  congr 1
  funext c
  fin_cases c
  · rfl
  · apply Fin.ext
    show (idx (ix2 a b)).toNat % 128 = n
    rw [h, BitVec.toNat_ofNat]; omega

/-- The three rotations together rotate by the residue. -/
theorem rot_all (f : Fin 8 → FVec Ideal S8x128 .f32) (u v : Fin 8) (y : S8x128.Idx) (hv : resV y = BitVec.ofNat 32 v.val) :
    rotV 4#32 4 (rotV 2#32 2 (rotV 1#32 1 f)) u y = f (u + v) y := by
  have hg : ∀ (g : Fin 8 → EReal) (u v : Fin 8),
      (let bit := fun b : BitVec 32 => IntOp.cmpi .ne (BitVec.ofNat 32 v.val &&& b) 0#32
       let r1 := fun u => Scalar.select (bit 1#32) (g (u + 1)) (g u)
       let r2 := fun u => Scalar.select (bit 2#32) (r1 (u + 2)) (r1 u)
       Scalar.select (bit 4#32) (r2 (u + 4)) (r2 u)) = g (u + v) := by
    intro g u v
    fin_cases v <;> fin_cases u <;> rfl
  have e := hg (fun p => f p y) u v
  rw [← hv] at e
  exact e

/-- The bit field that place `p` of a result's eight is packed in. -/
def fieldOf (p : ℕ) : ℕ := 4 * (p % 2) + p / 2 % 4

theorem fieldOf_lt (p : ℕ) : fieldOf p < 8 := by unfold fieldOf; omega

/-- The accumulator's column that the result's column `c` is read from. -/
def colW (c : Fin 1024) : Fin 1024 := ⟨128 * fieldOf (c.val % 8) + c.val / 8, by have := fieldOf_lt (c.val % 8); omega⟩

theorem winA_apply (A : Vec Ideal S256x1024 .f32) (m t : ℕ) (hm : m < 32) (ht : t < 8) (a : Fin 8) (b : Fin 128) :
    winA A m t hm ht (ix2 a b) = A (ix2 ⟨8 * m + a.val, by omega⟩ ⟨128 * t + b.val, by omega⟩) := by
  unfold winA VecWindow.window
  congr 1
  funext c
  fin_cases c
  · apply Fin.ext; show 8 * m + 1 * a.val = 8 * m + a.val; omega
  · apply Fin.ext; show 128 * t + 1 * b.val = 128 * t + b.val; omega

theorem winS_apply (s : Vec Ideal S1x1024 .f32) (t : ℕ) (ht : t < 8) (b : Fin 128) :
    winS s t ht (ix2 0 b) = s (ix2 0 ⟨128 * t + b.val, by omega⟩) := by
  unfold winS VecWindow.window
  congr 1
  funext c
  fin_cases c
  · rfl
  · apply Fin.ext; show 128 * t + 1 * b.val = 128 * t + b.val; omega

/-- The `p`-th gathered vector. -/
theorem gathered (A : Vec Ideal S256x1024 .f32) (m : ℕ) (hm : m < 32) (p : Fin 8) (a : Fin 8) (b : Fin 128) :
    (match p with
      | 0 => dynamicGather 1 (winA A m 0 hm (by decide)) (idxA 0#32)
      | 1 => dynamicGather 1 (winA A m 4 hm (by decide)) (idxA 1#32)
      | 2 => dynamicGather 1 (winA A m 1 hm (by decide)) (idxA 2#32)
      | 3 => dynamicGather 1 (winA A m 5 hm (by decide)) (idxA 3#32)
      | 4 => dynamicGather 1 (winA A m 2 hm (by decide)) (idxA 4#32)
      | 5 => dynamicGather 1 (winA A m 6 hm (by decide)) (idxA 5#32)
      | 6 => dynamicGather 1 (winA A m 3 hm (by decide)) (idxA 6#32)
      | 7 => dynamicGather 1 (winA A m 7 hm (by decide)) (idxA 7#32)
      : FVec Ideal S8x128 .f32) (ix2 a b)
    = A (ix2 ⟨8 * m + a.val, by omega⟩ ⟨128 * fieldOf p.val + (16 * ((b.val % 8 + 8 - p.val) % 8) + b.val / 8), by have := fieldOf_lt p.val; omega⟩) := by
  have key : ∀ (q : ℕ) (hq : q < 8), dynamicGather 1 (winA A m (fieldOf q) hm (fieldOf_lt q)) (idxA (BitVec.ofNat 32 q)) (ix2 a b)
      = A (ix2 ⟨8 * m + a.val, by omega⟩ ⟨128 * fieldOf q + (16 * ((b.val % 8 + 8 - q) % 8) + b.val / 8), by have := fieldOf_lt q; omega⟩) := by
    intro q hq
    rw [gather_apply _ _ a b (16 * ((b.val % 8 + 8 - q) % 8) + b.val / 8) (by omega) (idxA_apply q hq a b), winA_apply]
  fin_cases p
  · exact key 0 (by decide)
  · exact key 1 (by decide)
  · exact key 2 (by decide)
  · exact key 3 (by decide)
  · exact key 4 (by decide)
  · exact key 5 (by decide)
  · exact key 6 (by decide)
  · exact key 7 (by decide)

theorem midG_apply (A : Vec Ideal S256x1024 .f32) (m : ℕ) (hm : m < 32) (u : Fin 8) (a : Fin 8) (b : Fin 128) (p : Fin 8)
    (hp : p.val = (u.val + b.val % 8) % 8) :
    midG A m hm u (ix2 a b)
      = A (ix2 ⟨8 * m + a.val, by omega⟩ ⟨128 * fieldOf p.val + (16 * ((b.val % 8 + 8 - p.val) % 8) + b.val / 8), by have := fieldOf_lt p.val; omega⟩) := by
  unfold midG midV
  rw [rot_all _ u ⟨b.val % 8, by omega⟩ _ (resV_apply a b)]
  have e : u + ⟨b.val % 8, by omega⟩ = p := Fin.ext (by rw [Fin.val_add, hp])
  rw [e]
  exact gathered A m hm p a b

/-- What one store writes. -/
theorem out_apply (A : Vec Ideal S256x1024 .f32) (s : Vec Ideal S1x1024 .f32) (m t : ℕ) (hm : m < 32) (ht : t < 8) (u : Fin 8) (hu : u.val = (8 - t) % 8)
    (a : Fin 8) (b : Fin 128) :
    outV (midG A m hm u) (BitVec.ofNat 32 t) (winS s t ht) (ix2 a b)
      = A (ix2 ⟨8 * m + a.val, by omega⟩ (colW ⟨128 * t + b.val, by omega⟩)) * s (ix2 0 ⟨128 * t + b.val, by omega⟩) := by
  unfold outV
  show dynamicGather 1 (midG A m hm u) (idxB (BitVec.ofNat 32 t)) (ix2 a b)
    * broadcastTo S8x128 (shapeCast S1x128 (winS s t ht) shapeCasts_S1x128_S1x128) broadcasts_S1x128_S8x128 (ix2 a b) = _
  have hs : ∀ (x : FVec Ideal S1x128 .f32), broadcastTo S8x128 x broadcasts_S1x128_S8x128 (ix2 a b) = x (ix2 0 b) := by
    intro x
    unfold broadcastTo
    congr 1
    funext c
    fin_cases c <;> rfl
  rw [hs, shapeCast_id, winS_apply, gather_apply _ _ a b (8 * (b.val / 8) + (t + b.val) % 8) (by omega) (idxB_apply t ht a b),
    midG_apply A m hm u a _ ⟨b.val % 8, by omega⟩ (by show b.val % 8 = _; dsimp only; omega)]
  congr 3
  apply Fin.ext
  show 128 * fieldOf (b.val % 8) + (16 * (((8 * (b.val / 8) + (t + b.val) % 8) % 8 + 8 - b.val % 8) % 8) + (8 * (b.val / 8) + (t + b.val) % 8) / 8)
    = 128 * fieldOf ((128 * t + b.val) % 8) + (128 * t + b.val) / 8
  have e1 : (128 * t + b.val) % 8 = b.val % 8 := by omega
  rw [e1]
  omega

/-! ## The whole block -/

theorem putO_in (m t : ℕ) (w : FVec Ideal S8x128 .bf16) (o : Vec Ideal S256x1024 .bf16) (r : Fin 256) (c : Fin 1024)
    (hr : r.val / 8 = m) (hc : c.val / 128 = t) : putO m t w o (ix2 r c) = w (ix2 ⟨r.val % 8, by omega⟩ (laneF c)) := by
  unfold putO
  rw [put_in]
  · congr 1
    funext a
    fin_cases a
    · apply Fin.ext; show r.val - 8 * m = r.val % 8; omega
    · apply Fin.ext; show c.val - 128 * t = c.val % 128; omega
  · intro a
    fin_cases a
    · show 8 * m ≤ r.val ∧ r.val < 8 * m + 8; omega
    · show 128 * t ≤ c.val ∧ c.val < 128 * t + 128; omega

theorem putO_ne (m t : ℕ) (w : FVec Ideal S8x128 .bf16) (o : Vec Ideal S256x1024 .bf16) (r : Fin 256) (c : Fin 1024)
    (h : ¬ (r.val / 8 = m ∧ c.val / 128 = t)) : putO m t w o (ix2 r c) = o (ix2 r c) := by
  unfold putO
  rw [put_out]
  intro ha
  have h0 : 8 * m ≤ r.val ∧ r.val < 8 * m + 8 := ha 0
  have h1 : 128 * t ≤ c.val ∧ c.val < 128 * t + 128 := ha 1
  omega

/-- The block's entry at (r, c). -/
def outAt (A : Vec Ideal S256x1024 .f32) (s : Vec Ideal S1x1024 .f32) (r : Fin 256) (c : Fin 1024) : EReal :=
  A (ix2 r (colW c)) * s (ix2 0 c)

theorem out_at (A : Vec Ideal S256x1024 .f32) (s : Vec Ideal S1x1024 .f32) (m t : ℕ) (hm : m < 32) (ht : t < 8) (u : Fin 8) (hu : u.val = (8 - t) % 8)
    (r : Fin 256) (c : Fin 1024) (hr : r.val / 8 = m) (hc : c.val / 128 = t) :
    outV (midG A m hm u) (BitVec.ofNat 32 t) (winS s t ht) (ix2 ⟨r.val % 8, by omega⟩ (laneF c)) = outAt A s r c := by
  rw [out_apply A s m t hm ht u hu]
  have er : (⟨8 * m + r.val % 8, by omega⟩ : Fin 256) = r := Fin.ext (by show 8 * m + r.val % 8 = r.val; omega)
  have ec : (⟨128 * t + (laneF c).val, by have := (laneF c).isLt; omega⟩ : Fin 1024) = c :=
    Fin.ext (by show 128 * t + c.val % 128 = c.val; omega)
  show A (ix2 ⟨8 * m + r.val % 8, _⟩ (colW ⟨128 * t + (laneF c).val, _⟩)) * s (ix2 0 ⟨128 * t + (laneF c).val, _⟩) = _
  rw [er, ec]
  rfl

theorem groupO_apply (A : Vec Ideal S256x1024 .f32) (s : Vec Ideal S1x1024 .f32) (m : ℕ) (hm : m < 32) (o : Vec Ideal S256x1024 .bf16)
    (r : Fin 256) (c : Fin 1024) :
    groupO A s m hm o (ix2 r c) = if r.val / 8 = m then outAt A s r c else o (ix2 r c) := by
  have hc : c.val / 128 < 8 := by omega
  unfold groupO
  by_cases hr : r.val / 8 = m
  swap
  · rw [if_neg hr]
    rw [putO_ne _ _ _ _ _ _ (fun h => hr h.1), putO_ne _ _ _ _ _ _ (fun h => hr h.1), putO_ne _ _ _ _ _ _ (fun h => hr h.1),
      putO_ne _ _ _ _ _ _ (fun h => hr h.1), putO_ne _ _ _ _ _ _ (fun h => hr h.1), putO_ne _ _ _ _ _ _ (fun h => hr h.1),
      putO_ne _ _ _ _ _ _ (fun h => hr h.1), putO_ne _ _ _ _ _ _ (fun h => hr h.1)]
  rw [if_pos hr]
  by_cases h7 : c.val / 128 = 7
  · rw [putO_in m 7 _ _ _ _ hr h7]; exact out_at A s m 7 hm (by decide) 1 rfl r c hr h7
  rw [putO_ne m 7 _ _ _ _ (fun h => h7 h.2)]
  by_cases h6 : c.val / 128 = 6
  · rw [putO_in m 6 _ _ _ _ hr h6]; exact out_at A s m 6 hm (by decide) 2 rfl r c hr h6
  rw [putO_ne m 6 _ _ _ _ (fun h => h6 h.2)]
  by_cases h5 : c.val / 128 = 5
  · rw [putO_in m 5 _ _ _ _ hr h5]; exact out_at A s m 5 hm (by decide) 3 rfl r c hr h5
  rw [putO_ne m 5 _ _ _ _ (fun h => h5 h.2)]
  by_cases h4 : c.val / 128 = 4
  · rw [putO_in m 4 _ _ _ _ hr h4]; exact out_at A s m 4 hm (by decide) 4 rfl r c hr h4
  rw [putO_ne m 4 _ _ _ _ (fun h => h4 h.2)]
  by_cases h3 : c.val / 128 = 3
  · rw [putO_in m 3 _ _ _ _ hr h3]; exact out_at A s m 3 hm (by decide) 5 rfl r c hr h3
  rw [putO_ne m 3 _ _ _ _ (fun h => h3 h.2)]
  by_cases h2 : c.val / 128 = 2
  · rw [putO_in m 2 _ _ _ _ hr h2]; exact out_at A s m 2 hm (by decide) 6 rfl r c hr h2
  rw [putO_ne m 2 _ _ _ _ (fun h => h2 h.2)]
  by_cases h1 : c.val / 128 = 1
  · rw [putO_in m 1 _ _ _ _ hr h1]; exact out_at A s m 1 hm (by decide) 7 rfl r c hr h1
  rw [putO_ne m 1 _ _ _ _ (fun h => h1 h.2)]
  have h0 : c.val / 128 = 0 := by omega
  rw [putO_in m 0 _ _ _ _ hr h0]; exact out_at A s m 0 hm (by decide) 0 rfl r c hr h0

theorem groupsO_apply (A : Vec Ideal S256x1024 .f32) (s : Vec Ideal S1x1024 .f32) (r : Fin 256) (c : Fin 1024) (n : ℕ) :
    ∀ (m : ℕ) (h : m + n ≤ 32) (o : Vec Ideal S256x1024 .bf16),
    groupsO A s n m h o (ix2 r c) = if m ≤ r.val / 8 ∧ r.val / 8 < m + n then outAt A s r c else o (ix2 r c) := by
  induction n with
  | zero => intro m h o; rw [if_neg (by omega)]; rfl
  | succ n ih =>
    intro m h o
    unfold groupsO
    rw [ih, groupO_apply]
    by_cases h1 : r.val / 8 = m
    · rw [if_neg (by omega), if_pos h1, if_pos (by omega)]
    · rw [if_neg h1]
      by_cases h2 : m + 1 ≤ r.val / 8 ∧ r.val / 8 < m + 1 + n
      · rw [if_pos h2, if_pos (by omega)]
      · rw [if_neg h2, if_neg (by omega)]

/-- The result's block at the last point of a reduction. -/
theorem stepO_apply (i : grid0.Coords) (h8 : (i 1).val = 8) (A : Vec Ideal S256x1024 .f32) (s : Vec Ideal S1x1024 .f32) (o : Vec Ideal S256x1024 .bf16)
    (r : Fin 256) (c : Fin 1024) : stepO i A s o (ix2 r c) = outAt A s r c := by
  unfold stepO
  rw [if_pos ((cond2_iff i).mpr h8), groupsO_apply, if_pos (by omega)]

end Cert.KernelIdeal.Hand

end
-- ==== Proof.KernelIdeal.Blocks.lean ====
/- The blocks of the grid: what each window's block holds of its array at a point, at coordinates that are plain
   numbers, and what the result is. -/
module

public import proofs.«01_k».proof.Proof.KernelIdeal.Epilogue
public import Idealize.ShloMosaic.Lib.Pipeline.ValueKit.Geometry

@[expose] public section

noncomputable section

namespace Cert.KernelIdeal.Hand

open Idealize.ShloMosaic hiding ix2
open Idealize.ShloMosaic.ValueIdx Cert.KernelIdeal Cert.KernelIdeal.Facts₀ Cert.KernelIdeal.Facts Cert.Awq

/-! ## The arrays at plain numbers: nothing outside -/

def xN (X : Vec Ideal S256x11520 .bf16) (r : Fin 256) (k : ℕ) : EReal := if h : k < 11520 then X (ix2 r ⟨k, h⟩) else 0
def qN (Q : Vec Ideal S11520x2528 .i32) (k n : ℕ) : BitVec 32 := if h : k < 11520 ∧ n < 2528 then Q (ix2 ⟨k, h.1⟩ ⟨n, h.2⟩) else 0
def zN (Z : Vec Ideal S1x2528 .i32) (n : ℕ) : BitVec 32 := if h : n < 2528 then Z (ix2 0 ⟨n, h⟩) else 0
def sN (S : Vec Ideal S1x20224 .f32) (n : ℕ) : EReal := if h : n < 20224 then S (ix2 0 ⟨n, h⟩) else 0

/-- The sum of the first `K` products of row `r` with field `j` of column `n`, each field less its zero point. -/
def accN (X : Vec Ideal S256x11520 .bf16) (Q : Vec Ideal S11520x2528 .i32) (Z : Vec Ideal S1x2528 .i32) (r : Fin 256) (n j K : ℕ) : EReal :=
  ∑ k ∈ Finset.range K, xN X r k * ((nibR (qN Q k n) j - nibR (zN Z n) j : ℝ) : EReal)

/-- The result at (r, C). -/
def specN (X : Vec Ideal S256x11520 .bf16) (Q : Vec Ideal S11520x2528 .i32) (Z : Vec Ideal S1x2528 .i32) (S : Vec Ideal S1x20224 .f32)
    (r : Fin 256) (C : ℕ) : EReal :=
  accN X Q Z r (C / 8) (fieldOf (C % 8)) 11520 * sN S C

/-! ## The points -/

theorem coords0 : ∀ t : Fin grid0.N, (grid0.coords t 0).val = t.val / 9 := by decide +kernel
theorem coords1 : ∀ t : Fin grid0.N, (grid0.coords t 1).val = t.val % 9 := by decide +kernel
theorem lt_N (t : Fin grid0.N) : t.val < 180 := t.isLt

theorem index1 : ∀ t : Fin grid0.N, win0_0.index t 0 = 0 ∧ win0_0.index t 1 = t.val % 9 := by decide +kernel
theorem index2 : ∀ t : Fin grid0.N, win0_1.index t 0 = t.val % 9 ∧ win0_1.index t 1 = t.val / 9 := by decide +kernel
theorem index3 : ∀ t : Fin grid0.N, win0_2.index t 0 = 0 ∧ win0_2.index t 1 = t.val / 9 := by decide +kernel
theorem index4 : ∀ t : Fin grid0.N, win0_3.index t 0 = 0 ∧ win0_3.index t 1 = t.val / 9 := by decide +kernel
theorem index5 : ∀ t : Fin grid0.N, win0_4.index t 0 = 0 ∧ win0_4.index t 1 = t.val / 9 := by decide +kernel

theorem xsize1 : ∀ t : Fin grid0.N, win0_1.xsize (grid0.coords t) 0 = 1280 ∧ win0_1.xsize (grid0.coords t) 1 = min 128 (2528 - 128 * (t.val / 9)) := by
  decide +kernel
theorem xsize2 : ∀ t : Fin grid0.N, win0_2.xsize (grid0.coords t) 0 = 1 ∧ win0_2.xsize (grid0.coords t) 1 = min 128 (2528 - 128 * (t.val / 9)) := by
  decide +kernel
theorem xsize3 : ∀ t : Fin grid0.N, win0_3.xsize (grid0.coords t) 0 = 1 ∧ win0_3.xsize (grid0.coords t) 1 = min 1024 (20224 - 1024 * (t.val / 9)) := by
  decide +kernel
theorem xsize4 : ∀ t : Fin grid0.N, win0_4.xsize (grid0.coords t) 0 = 256 ∧ win0_4.xsize (grid0.coords t) 1 = min 1024 (20224 - 1024 * (t.val / 9)) := by
  decide +kernel

/-! ## The blocks -/

def blkX (X : Vec Ideal S256x11520 .bf16) (t : ℕ) : Vec Ideal S256x1280 .bf16 := fun y => xN X (y 0) (1280 * (t % 9) + (y 1).val)
def blkQ (Q : Vec Ideal S11520x2528 .i32) (t : ℕ) : Vec Ideal S1280x128 .i32 := fun y => qN Q (1280 * (t % 9) + (y 0).val) (128 * (t / 9) + (y 1).val)
def blkZ (Z : Vec Ideal S1x2528 .i32) (t : ℕ) : Vec Ideal S1x128 .i32 := fun y => zN Z (128 * (t / 9) + (y 1).val)
def blkS (S : Vec Ideal S1x20224 .f32) (t : ℕ) : Vec Ideal S1x1024 .f32 := fun y => sN S (1024 * (t / 9) + (y 1).val)
def blkO (X : Vec Ideal S256x11520 .bf16) (Q : Vec Ideal S11520x2528 .i32) (Z : Vec Ideal S1x2528 .i32) (S : Vec Ideal S1x20224 .f32) (t : ℕ) :
    Vec Ideal S256x1024 .bf16 := fun y => specN X Q Z S (y 0) (1024 * (t / 9) + (y 1).val)

theorem read0 (X : Vec Ideal S256x11520 .bf16) (t : Fin grid0.N) :
    (win0_0.blk t).view.read (Elt Ideal) X = blkX X t.val := by
  funext y
  show X ((win0_0.rect t).emb y) = xN X (y 0) (1280 * (t.val % 9) + (y 1).val)
  have e0 : ((win0_0.rect t).emb y 0 : ℕ) = win0_0.index t 0 * 256 + y 0 := win0_0.rect_emb_val t y 0
  have e1 : ((win0_0.rect t).emb y 1 : ℕ) = win0_0.index t 1 * 1280 + y 1 := win0_0.rect_emb_val t y 1
  have b1 : (y 1).val < 1280 := (y 1).isLt
  rw [(index1 t).1] at e0
  rw [(index1 t).2] at e1
  unfold xN
  rw [dif_pos (by omega)]
  congr 1
  funext a
  fin_cases a
  · apply Fin.ext; exact e0.trans (by show 0 * 256 + (y 0).val = (y 0).val; omega)
  · apply Fin.ext; exact e1.trans (by show t.val % 9 * 1280 + (y 1).val = 1280 * (t.val % 9) + (y 1).val; omega)

theorem read1 (Q : Vec Ideal S11520x2528 .i32) (t : Fin grid0.N) :
    (win0_1.blk t).view.read (Elt Ideal) Q = win0_1.cut (grid0.coords t) (blkQ Q t.val) := by
  funext y
  show Q ((win0_1.rect t).emb y) = qN Q (1280 * (t.val % 9) + (y 0).val) (128 * (t.val / 9) + (y 1).val)
  have e0 : ((win0_1.rect t).emb y 0 : ℕ) = win0_1.index t 0 * 1280 + y 0 := win0_1.rect_emb_val t y 0
  have e1 : ((win0_1.rect t).emb y 1 : ℕ) = win0_1.index t 1 * 128 + y 1 := win0_1.rect_emb_val t y 1
  have b0 : ((win0_1.rect t).emb y 0 : ℕ) < 11520 := ((win0_1.rect t).emb y 0).isLt
  have b1 : ((win0_1.rect t).emb y 1 : ℕ) < 2528 := ((win0_1.rect t).emb y 1).isLt
  rw [(index2 t).1] at e0
  rw [(index2 t).2] at e1
  unfold qN
  rw [dif_pos ⟨by omega, by omega⟩]
  congr 1
  funext a
  fin_cases a
  · apply Fin.ext; exact e0.trans (by show t.val % 9 * 1280 + (y 0).val = 1280 * (t.val % 9) + (y 0).val; omega)
  · apply Fin.ext; exact e1.trans (by show t.val / 9 * 128 + (y 1).val = 128 * (t.val / 9) + (y 1).val; omega)

theorem read2 (Z : Vec Ideal S1x2528 .i32) (t : Fin grid0.N) :
    (win0_2.blk t).view.read (Elt Ideal) Z = win0_2.cut (grid0.coords t) (blkZ Z t.val) := by
  funext y
  show Z ((win0_2.rect t).emb y) = zN Z (128 * (t.val / 9) + (y 1).val)
  have e1 : ((win0_2.rect t).emb y 1 : ℕ) = win0_2.index t 1 * 128 + y 1 := win0_2.rect_emb_val t y 1
  have b0 : ((win0_2.rect t).emb y 0 : ℕ) < 1 := ((win0_2.rect t).emb y 0).isLt
  have b1 : ((win0_2.rect t).emb y 1 : ℕ) < 2528 := ((win0_2.rect t).emb y 1).isLt
  rw [(index3 t).2] at e1
  unfold zN
  rw [dif_pos (by omega)]
  congr 1
  funext a
  fin_cases a
  · apply Fin.ext; show ((win0_2.rect t).emb y 0 : ℕ) = 0; omega
  · apply Fin.ext; exact e1.trans (by show t.val / 9 * 128 + (y 1).val = 128 * (t.val / 9) + (y 1).val; omega)

theorem read3 (S : Vec Ideal S1x20224 .f32) (t : Fin grid0.N) :
    (win0_3.blk t).view.read (Elt Ideal) S = win0_3.cut (grid0.coords t) (blkS S t.val) := by
  funext y
  show S ((win0_3.rect t).emb y) = sN S (1024 * (t.val / 9) + (y 1).val)
  have e1 : ((win0_3.rect t).emb y 1 : ℕ) = win0_3.index t 1 * 1024 + y 1 := win0_3.rect_emb_val t y 1
  have b0 : ((win0_3.rect t).emb y 0 : ℕ) < 1 := ((win0_3.rect t).emb y 0).isLt
  have b1 : ((win0_3.rect t).emb y 1 : ℕ) < 20224 := ((win0_3.rect t).emb y 1).isLt
  rw [(index4 t).2] at e1
  unfold sN
  rw [dif_pos (by omega)]
  congr 1
  funext a
  fin_cases a
  · apply Fin.ext; show ((win0_3.rect t).emb y 0 : ℕ) = 0; omega
  · apply Fin.ext; exact e1.trans (by show t.val / 9 * 1024 + (y 1).val = 1024 * (t.val / 9) + (y 1).val; omega)

/-! ## One point's step -/

/-- What the accumulator holds before point `t`: the products of the points of its reduction so far, in the columns
    whose packed word the array has; at the first of a reduction, anything. -/
def AccAt (X : Vec Ideal S256x11520 .bf16) (Q : Vec Ideal S11520x2528 .i32) (Z : Vec Ideal S1x2528 .i32) (t : ℕ) (A : Vec Ideal S256x1024 .f32) : Prop :=
  t % 9 ≠ 0 → ∀ (r : Fin 256) (c : Fin 1024), 128 * (t / 9) + c.val % 128 < 2528 →
    A (ix2 r c) = accN X Q Z r (128 * (t / 9) + c.val % 128) (c.val / 128) (1280 * (t % 9))

/-- What it holds after: one block's products more. -/
theorem step_acc (X : Vec Ideal S256x11520 .bf16) (Q : Vec Ideal S11520x2528 .i32) (Z : Vec Ideal S1x2528 .i32) (t : Fin grid0.N)
    (A : Vec Ideal S256x1024 .f32) (hA : AccAt X Q Z t.val A) (q : Vec Ideal S1280x128 .i32) (z : Vec Ideal S1x128 .i32) (w : Vec Ideal S1280x1024 .bf16)
    (hq : ∀ (ρ : Fin 1280) (l : Fin 128), 128 * (t.val / 9) + l.val < 2528 → q (ix2 ρ l) = blkQ Q t.val (ix2 ρ l))
    (hz : ∀ l : Fin 128, 128 * (t.val / 9) + l.val < 2528 → z (ix2 0 l) = blkZ Z t.val (ix2 0 l))
    (r : Fin 256) (c : Fin 1024) (hc : 128 * (t.val / 9) + c.val % 128 < 2528) :
    stepA (grid0.coords t) A (blkX X t.val) (decodeW q z w) (ix2 r c)
      = accN X Q Z r (128 * (t.val / 9) + c.val % 128) (c.val / 128) (1280 * (t.val % 9) + 1280) := by
  rw [stepA_apply, startA_apply, coords1]
  unfold accN
  rw [Finset.sum_range_add]
  congr 1
  · by_cases h0 : t.val % 9 = 0
    · rw [if_pos h0, h0]; rfl
    · rw [if_neg h0]; exact hA h0 r c hc
  · rw [Finset.sum_range]
    refine Finset.sum_congr rfl fun k _ => ?_
    rw [decodeW_apply, hq k (laneF c) hc, hz (laneF c) hc]
    rfl

/-- So the next point finds what it expects. -/
theorem step_next (X : Vec Ideal S256x11520 .bf16) (Q : Vec Ideal S11520x2528 .i32) (Z : Vec Ideal S1x2528 .i32) (t : Fin grid0.N)
    (A' : Vec Ideal S256x1024 .f32)
    (h : ∀ (r : Fin 256) (c : Fin 1024), 128 * (t.val / 9) + c.val % 128 < 2528 →
      A' (ix2 r c) = accN X Q Z r (128 * (t.val / 9) + c.val % 128) (c.val / 128) (1280 * (t.val % 9) + 1280)) :
    AccAt X Q Z (t.val + 1) A' := by
  intro h1 r c hc
  have e1 : (t.val + 1) / 9 = t.val / 9 := by omega
  have e2 : 1280 * ((t.val + 1) % 9) = 1280 * (t.val % 9) + 1280 := by omega
  rw [e1] at hc ⊢
  rw [e2]
  exact h r c hc

/-- And the last of a reduction writes the result. -/
theorem step_out (X : Vec Ideal S256x11520 .bf16) (Q : Vec Ideal S11520x2528 .i32) (Z : Vec Ideal S1x2528 .i32) (S : Vec Ideal S1x20224 .f32) (t : Fin grid0.N)
    (h8 : t.val % 9 = 8) (A' : Vec Ideal S256x1024 .f32)
    (h : ∀ (r : Fin 256) (c : Fin 1024), 128 * (t.val / 9) + c.val % 128 < 2528 →
      A' (ix2 r c) = accN X Q Z r (128 * (t.val / 9) + c.val % 128) (c.val / 128) (1280 * (t.val % 9) + 1280))
    (s : Vec Ideal S1x1024 .f32) (hs : ∀ l : Fin 1024, 1024 * (t.val / 9) + l.val < 20224 → s (ix2 0 l) = blkS S t.val (ix2 0 l))
    (o : Vec Ideal S256x1024 .bf16) (r : Fin 256) (c : Fin 1024) (hc : 1024 * (t.val / 9) + c.val < 20224) :
    stepO (grid0.coords t) A' s o (ix2 r c) = blkO X Q Z S t.val (ix2 r c) := by
  have hf := fieldOf_lt (c.val % 8)
  have e1 : (colW c).val % 128 = c.val / 8 := by show (128 * fieldOf (c.val % 8) + c.val / 8) % 128 = _; omega
  have e2 : (colW c).val / 128 = fieldOf (c.val % 8) := by show (128 * fieldOf (c.val % 8) + c.val / 8) / 128 = _; omega
  have e3 : (1024 * (t.val / 9) + c.val) / 8 = 128 * (t.val / 9) + c.val / 8 := by omega
  have e4 : (1024 * (t.val / 9) + c.val) % 8 = c.val % 8 := by omega
  rw [stepO_apply _ (by rw [coords1]; exact h8)]
  unfold outAt
  rw [h r (colW c) (by rw [e1]; omega), hs c hc, e1, e2, h8]
  show _ = specN X Q Z S r (1024 * (t.val / 9) + c.val)
  unfold specN
  rw [e3, e4]
  rfl

end Cert.KernelIdeal.Hand

end
-- ==== Proof.KernelIdeal.ValueRun.lean ====
/- The run with its values: what each window's buffer and the accumulator hold at each point, and so what the result
   array holds at the end. -/
module

public import proofs.«01_k».proof.Proof.KernelIdeal.Blocks
public import proofs.«01_k».proof.Proof.KernelIdeal.FrameRun

@[expose] public section

noncomputable section

namespace Cert.KernelIdeal.Hand

open Idealize.ShloMosaic hiding ix2
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Awq

local notation "𝕄" => MT nD τ sig Unit (Elt Ideal) ℕ (UR sig nD τ) ℕ

variable (m : (ℓ : Loc nD τ sig) → Buf (Elt Ideal) ℓ) (ρ : Dev nD → PrngReg)

/-! ## The arrays the region finds -/

def arrX (c : Dev nD) : Vec Ideal S256x11520 .bf16 := Gen.V m c main_v0
def arrQ (c : Dev nD) : Vec Ideal S11520x2528 .i32 := Gen.V m c main_arg1
def arrZ (c : Dev nD) : Vec Ideal S1x2528 .i32 := Gen.V m c main_v1
def arrS (c : Dev nD) : Vec Ideal S1x20224 .f32 := Gen.V m c main_v2

/-- What is held between the points: the weights' scratch at anything, the accumulator at the sums so far. -/
def heldAt (c : Dev nD) (t : ℕ) : sProp 𝕄 :=
  iprop(((∃ w : Vec Ideal S1280x1024 .bf16, (c : Thread nD τ).loc cc0_scratch0 ↦{fullShare} w)
      ∗ (∃ A : Vec Ideal S256x1024 .f32, ⌜AccAt (arrX m c) (arrQ m c) (arrZ m c) t A⌝ ∗ ((c : Thread nD τ).loc cc0_scratch1 ↦{fullShare} A)))
    ∗ ∃ r, prngReg c r)

/-- The proof data: after the body each input's buffer holds its block, and the result's the result. -/
def vdats (_ : Fin 1) (c : Dev nD) : Dat τ (Elt Ideal) Unit ℕ (UR sig nD τ) ℕ cfg0 c where
  A w := Gen.V m c (Pipeline.arrRef spec0 w)
  after w t := match w with
    | ⟨0, _⟩ => blkX (arrX m c) t.val
    | ⟨1, _⟩ => blkQ (arrQ m c) t.val
    | ⟨2, _⟩ => blkZ (arrZ m c) t.val
    | ⟨3, _⟩ => blkS (arrS m c) t.val
    | ⟨4, _⟩ => blkO (arrX m c) (arrQ m c) (arrZ m c) (arrS m c) t.val
  Φ t := heldAt m c t.val
  q _ := fullShare
  owed _ := 0

/-! ## What the body finds -/

/-- A cut block inside the array. -/
theorem fill_cut_in {G : Pipeline.Grid} (w : Window sig G) {α : Type} (i : G.Coords) (d X : w.block.Idx → α) (j : w.block.Idx)
    (h : ∀ a, (j a).val < w.xsize i a) : w.fill i d (w.cut i X) j = X j := by
  unfold Window.fill
  rw [dif_pos ((w.moved_iff i j).mpr h)]

/-- A cut block at two points that cut alike. -/
theorem fill_cut_congr {G : Pipeline.Grid} (w : Window sig G) {α : Type} (i i' : G.Coords) (d X : w.block.Idx → α)
    (h : ∀ a, w.xsize i a = w.xsize i' a) : w.fill i d (w.cut i X) = w.fill i' d (w.cut i' X) := by
  funext j
  have e : w.moved i j = w.moved i' j := by
    rw [Bool.eq_iff_iff, w.moved_iff, w.moved_iff]
    exact forall_congr' fun a => by rw [h a]
  unfold Window.fill
  by_cases hm : w.moved i j = true
  · rw [dif_pos hm, dif_pos (e ▸ hm)]
  · rw [dif_neg hm, dif_neg (e ▸ hm)]

theorem before_0 (c : Dev nD) (t : Fin cfg0.N) (d) : (vdats m 0 c).before (0 : Fin 5) t d = blkX (arrX m c) t.val := by
  unfold Dat.before; rw [if_pos (Gen.fetch0_0 t)]
  exact read0 (arrX m c) t

theorem before_1 (c : Dev nD) (t : Fin cfg0.N) (d) :
    (vdats m 0 c).before (1 : Fin 5) t d = win0_1.fill (grid0.coords t) d (win0_1.cut (grid0.coords t) (blkQ (arrQ m c) t.val)) := by
  unfold Dat.before; rw [if_pos (Gen.fetch0_1 t)]
  exact congrArg (win0_1.fill (grid0.coords t) d) (read1 (arrQ m c) t)

theorem before_2 (c : Dev nD) (t : Fin cfg0.N) (d) :
    (vdats m 0 c).before (2 : Fin 5) t d = win0_2.fill (grid0.coords t) d (win0_2.cut (grid0.coords t) (blkZ (arrZ m c) t.val)) := by
  by_cases h : t.val % 9 = 0
  · unfold Dat.before; rw [if_pos ((Gen.fetch0_2 t).mpr h)]
    exact congrArg (win0_2.fill (grid0.coords t) d) (read2 (arrZ m c) t)
  · unfold Dat.before; rw [if_neg (fun e => h ((Gen.fetch0_2 t).mp e)), if_neg (fun e => h (by omega))]
    have e9 : (t.val - 1) / 9 = t.val / 9 := by omega
    have eb : blkZ (arrZ m c) (t.val - 1) = blkZ (arrZ m c) t.val := by unfold blkZ; rw [e9]
    let t' : Fin grid0.N := ⟨t.val - 1, Nat.lt_of_le_of_lt (Nat.sub_le _ _) t.isLt⟩
    show win0_2.fill (grid0.coords t') d (win0_2.cut (grid0.coords t') (blkZ (arrZ m c) (t.val - 1))) = _
    rw [eb]
    refine fill_cut_congr win0_2 _ _ d _ fun a => ?_
    have h1 := xsize2 t'
    have h2 := xsize2 t
    have e9' : t'.val / 9 = t.val / 9 := e9
    rw [e9'] at h1
    match a with
    | ⟨0, _⟩ => exact h1.1.trans h2.1.symm
    | ⟨1, _⟩ => exact h1.2.trans h2.2.symm

theorem before_3 (c : Dev nD) (t : Fin cfg0.N) (d) :
    (vdats m 0 c).before (3 : Fin 5) t d = win0_3.fill (grid0.coords t) d (win0_3.cut (grid0.coords t) (blkS (arrS m c) t.val)) := by
  by_cases h : t.val % 9 = 0
  · unfold Dat.before; rw [if_pos ((Gen.fetch0_3 t).mpr h)]
    exact congrArg (win0_3.fill (grid0.coords t) d) (read3 (arrS m c) t)
  · unfold Dat.before; rw [if_neg (fun e => h ((Gen.fetch0_3 t).mp e)), if_neg (fun e => h (by omega))]
    have e9 : (t.val - 1) / 9 = t.val / 9 := by omega
    have eb : blkS (arrS m c) (t.val - 1) = blkS (arrS m c) t.val := by unfold blkS; rw [e9]
    let t' : Fin grid0.N := ⟨t.val - 1, Nat.lt_of_le_of_lt (Nat.sub_le _ _) t.isLt⟩
    show win0_3.fill (grid0.coords t') d (win0_3.cut (grid0.coords t') (blkS (arrS m c) (t.val - 1))) = _
    rw [eb]
    refine fill_cut_congr win0_3 _ _ d _ fun a => ?_
    have h1 := xsize3 t'
    have h2 := xsize3 t
    have e9' : t'.val / 9 = t.val / 9 := e9
    rw [e9'] at h1
    match a with
    | ⟨0, _⟩ => exact h1.1.trans h2.1.symm
    | ⟨1, _⟩ => exact h1.2.trans h2.2.symm

/-! ## What the body leaves -/

/-- The result's buffer: at the last point of a reduction the result's block, else what was found. -/
theorem leaves_4 (c : Dev nD) (t : Fin cfg0.N) (d : Vec Ideal S256x1024 .bf16) (A' : Vec Ideal S256x1024 .f32) (s : Vec Ideal S1x1024 .f32)
    (hA : ∀ (r : Fin 256) (l : Fin 1024), 128 * (t.val / 9) + l.val % 128 < 2528 →
      A' (ix2 r l) = accN (arrX m c) (arrQ m c) (arrZ m c) r (128 * (t.val / 9) + l.val % 128) (l.val / 128) (1280 * (t.val % 9) + 1280))
    (hs : ∀ l : Fin 1024, 1024 * (t.val / 9) + l.val < 20224 → s (ix2 0 l) = blkS (arrS m c) t.val (ix2 0 l)) :
    owns (c : Thread nD τ) (win0_4.stage (cfg0.slots t 4)) fullShare (stepO (grid0.coords t) A' s ((vdats m 0 c).before (4 : Fin 5) t d))
      ⊢ ((vdats m 0 c).leaves (4 : Fin 5) t : sProp 𝕄) := by
  have hk := cond2_iff (grid0.coords t)
  rw [coords1] at hk
  unfold Dat.leaves
  by_cases h8 : t.val % 9 = 8
  · have hi : cfg0.idle (4 : Fin 5) (cfg0.grid.coords t) = false := by
      show (!(k0_cond2 (grid0.coords t) == 1#1)) = false
      rw [hk.mpr h8]; rfl
    rw [hi]
    show _ ⊢ iprop(∃ d, owns (c : Thread nD τ) (win0_4.stage (cfg0.slots t 4)) fullShare
      (win0_4.fill (grid0.coords t) d (win0_4.cut (grid0.coords t) (blkO (arrX m c) (arrQ m c) (arrZ m c) (arrS m c) t.val))))
    iintro H
    iexists stepO (grid0.coords t) A' s ((vdats m 0 c).before (4 : Fin 5) t d)
    have e : win0_4.fill (grid0.coords t) (stepO (grid0.coords t) A' s ((vdats m 0 c).before (4 : Fin 5) t d))
        (win0_4.cut (grid0.coords t) (blkO (arrX m c) (arrQ m c) (arrZ m c) (arrS m c) t.val))
        = stepO (grid0.coords t) A' s ((vdats m 0 c).before (4 : Fin 5) t d) := by
      refine win0_4.fill_congr_cut _ (funext fun j => ?_)
      have b1 : (j 1).val < win0_4.xsize (grid0.coords t) 1 := (j 1).isLt
      rw [(xsize4 t).2] at b1
      have ej := ValueIdx.eq_ix2 (win0_4.xinj (grid0.coords t) j)
      show stepO (grid0.coords t) A' s ((vdats m 0 c).before (4 : Fin 5) t d) (win0_4.xinj (grid0.coords t) j)
        = blkO (arrX m c) (arrQ m c) (arrZ m c) (arrS m c) t.val (win0_4.xinj (grid0.coords t) j)
      rw [ej]
      exact step_out (arrX m c) (arrQ m c) (arrZ m c) (arrS m c) t h8 A' hA s hs _ _ _
        (by show 1024 * (t.val / 9) + (j 1).val < 20224; omega)
    rw [e]
    iexact H
  · have hi : cfg0.idle (4 : Fin 5) (cfg0.grid.coords t) = true := by
      show (!(k0_cond2 (grid0.coords t) == 1#1)) = true
      have : (k0_cond2 (grid0.coords t) == 1#1) = false := beq_false_of_ne (fun e => h8 (hk.mp e))
      rw [this]; rfl
    have hf : (cfg0.win (4 : Fin 5)).flush t = false := by
      rw [Bool.eq_false_iff]; exact fun e => h8 ((Gen.flush0_4 t).mp e)
    have e : stepO (grid0.coords t) A' s ((vdats m 0 c).before (4 : Fin 5) t d) = (vdats m 0 c).before (4 : Fin 5) t d := by
      unfold stepO; rw [if_neg (fun e => h8 (hk.mp e))]
    rw [hi, hf, e]
    show _ ⊢ iprop(∃ d, owns (c : Thread nD τ) (win0_4.stage (cfg0.slots t 4)) fullShare ((vdats m 0 c).before (4 : Fin 5) t d))
    iintro H
    iexists d
    iexact H

/-- The body's obligation. -/
theorem value_body (c : Dev nD) : BodyObligationLoose (vdats m 0 c) (defs₀ (F := Ideal)) 𝒱₀ () Set.univ := fun t => by
  rw [Gen.bigSep_W0, Gen.bigSep_W0]
  change iprop(heldAt m c t.val ∗ (vdats m 0 c).owesAt () t.castSucc
        ∗ (∃ d, owns (c : Thread nD τ) (win0_0.stage (cfg0.slots t 0)) fullShare ((vdats m 0 c).before (0 : Fin 5) t d))
        ∗ (∃ d, owns (c : Thread nD τ) (win0_1.stage (cfg0.slots t 1)) fullShare ((vdats m 0 c).before (1 : Fin 5) t d))
        ∗ (∃ d, owns (c : Thread nD τ) (win0_2.stage (cfg0.slots t 2)) fullShare ((vdats m 0 c).before (2 : Fin 5) t d))
        ∗ (∃ d, owns (c : Thread nD τ) (win0_3.stage (cfg0.slots t 3)) fullShare ((vdats m 0 c).before (3 : Fin 5) t d))
        ∗ (∃ d, owns (c : Thread nD τ) (win0_4.stage (cfg0.slots t 4)) fullShare ((vdats m 0 c).before (4 : Fin 5) t d)))
    ⊢ wp frame (wpE (defs₀ (F := Ideal)) 𝒱₀ c none) Set.univ (Gen.bodyAt0 t) (fun _ =>
      iprop(heldAt m c (t.val + 1) ∗ (vdats m 0 c).owesAt () t.castSucc
        ∗ owns (c : Thread nD τ) (win0_0.stage (cfg0.slots t 0)) fullShare (blkX (arrX m c) t.val)
        ∗ (∃ d, owns (c : Thread nD τ) (win0_1.stage (cfg0.slots t 1)) fullShare
            (win0_1.fill (grid0.coords t) d (win0_1.cut (grid0.coords t) (blkQ (arrQ m c) t.val))))
        ∗ (∃ d, owns (c : Thread nD τ) (win0_2.stage (cfg0.slots t 2)) fullShare
            (win0_2.fill (grid0.coords t) d (win0_2.cut (grid0.coords t) (blkZ (arrZ m c) t.val))))
        ∗ (∃ d, owns (c : Thread nD τ) (win0_3.stage (cfg0.slots t 3)) fullShare
            (win0_3.fill (grid0.coords t) d (win0_3.cut (grid0.coords t) (blkS (arrS m c) t.val))))
        ∗ (vdats m 0 c).leaves (4 : Fin 5) t))
  unfold heldAt
  iintro ⟨⟨⟨⟨%w, H7⟩, ⟨%A, %hA, H8⟩⟩, Hr⟩, Ho, ⟨%d0, H0⟩, ⟨%d1, H1⟩, ⟨%d2, H2⟩, ⟨%d3, H3⟩, ⟨%d4, H4⟩⟩
  rw [before_0 m c t d0, before_1 m c t d1, before_2 m c t d2, before_3 m c t d3]
  have x2 := xsize1 t
  have x3 := xsize2 t
  have x4 := xsize3 t
  have hq : ∀ (r : Fin 1280) (l : Fin 128), 128 * (t.val / 9) + l.val < 2528 →
      win0_1.fill (grid0.coords t) d1 (win0_1.cut (grid0.coords t) (blkQ (arrQ m c) t.val)) (ix2 r l) = blkQ (arrQ m c) t.val (ix2 r l) := by
    intro r l hl
    refine fill_cut_in win0_1 _ _ _ _ fun a => ?_
    match a with
    | ⟨0, _⟩ => exact lt_of_lt_of_eq r.isLt x2.1.symm
    | ⟨1, _⟩ => exact lt_of_lt_of_eq (show l.val < min 128 (2528 - 128 * (t.val / 9)) by omega) x2.2.symm
  have hz : ∀ (l : Fin 128), 128 * (t.val / 9) + l.val < 2528 →
      win0_2.fill (grid0.coords t) d2 (win0_2.cut (grid0.coords t) (blkZ (arrZ m c) t.val)) (ix2 0 l) = blkZ (arrZ m c) t.val (ix2 0 l) := by
    intro l hl
    refine fill_cut_in win0_2 _ _ _ _ fun a => ?_
    match a with
    | ⟨0, _⟩ => exact lt_of_lt_of_eq (show (0 : ℕ) < 1 by decide) x3.1.symm
    | ⟨1, _⟩ => exact lt_of_lt_of_eq (show l.val < min 128 (2528 - 128 * (t.val / 9)) by omega) x3.2.symm
  have hs : ∀ (l : Fin 1024), 1024 * (t.val / 9) + l.val < 20224 →
      win0_3.fill (grid0.coords t) d3 (win0_3.cut (grid0.coords t) (blkS (arrS m c) t.val)) (ix2 0 l) = blkS (arrS m c) t.val (ix2 0 l) := by
    intro l hl
    refine fill_cut_in win0_3 _ _ _ _ fun a => ?_
    match a with
    | ⟨0, _⟩ => exact lt_of_lt_of_eq (show (0 : ℕ) < 1 by decide) x4.1.symm
    | ⟨1, _⟩ => exact lt_of_lt_of_eq (show l.val < min 1024 (20224 - 1024 * (t.val / 9)) by omega) x4.2.symm
  have hstep := step_acc (arrX m c) (arrQ m c) (arrZ m c) t A hA _ _ w hq hz
  iapply (tr_bodyAt c Set.univ t (blkX (arrX m c) t.val)
    (win0_1.fill (grid0.coords t) d1 (win0_1.cut (grid0.coords t) (blkQ (arrQ m c) t.val)))
    (win0_2.fill (grid0.coords t) d2 (win0_2.cut (grid0.coords t) (blkZ (arrZ m c) t.val)))
    (win0_3.fill (grid0.coords t) d3 (win0_3.cut (grid0.coords t) (blkS (arrS m c) t.val)))
    ((vdats m 0 c).before (4 : Fin 5) t d4) w A _) $$ [H0 H1 H2 H3 H4 H7 H8]
  · isplitl [H0]
    · iexact H0
    isplitl [H1]
    · iexact H1
    isplitl [H2]
    · iexact H2
    isplitl [H3]
    · iexact H3
    isplitl [H4]
    · iexact H4
    isplitl [H7]
    · iexact H7
    · iexact H8
  iintro H0 H1 H2 H3 H4 H7 H8
  ihave H4 := (leaves_4 m c t d4 _ _ hstep hs) $$ H4
  isplitl [H7 H8 Hr]
  · isplitl [H7 H8]
    · isplitl [H7]
      · iexists _; iexact H7
      · iexists _; isplitr
        swap
        · iexact H8
        ipureintro
        exact step_next (arrX m c) (arrQ m c) (arrZ m c) t _ hstep
    · iexact Hr
  isplitl [Ho]
  · iexact Ho
  isplitl [H0]
  · iexact H0
  isplitl [H1]
  · iexists _; iexact H1
  isplitl [H2]
  · iexists _; iexact H2
  isplitl [H3]
  · iexists _; iexact H3
  · iexact H4

end Cert.KernelIdeal.Hand

end
-- ==== Proof.KernelIdeal.ValueResult.lean ====
/- The kernel's run over the extended reals: what its result holds at the end. -/
module

public import proofs.«01_k».proof.Proof.KernelIdeal.ValueRun

@[expose] public section

noncomputable section

namespace Cert.KernelIdeal.Hand

open Idealize.ShloMosaic hiding ix2
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Awq Cert.KernelIdeal.Facts₀ Cert.KernelIdeal.Facts

variable (m : (ℓ : Loc nD τ sig) → Buf (Elt Ideal) ℓ) (ρ : Dev nD → PrngReg)

/-- The array the kernel writes, at the end. -/
def finalO (c : Dev nD) : Vec Ideal S256x20224 .bf16 := fun j => specN (arrX m c) (arrQ m c) (arrZ m c) (arrS m c) (j 0) (j 1).val

theorem arrAt_4 (c : Dev nD) : (vdats m 0 c).arrAt (4 : Fin 5) cfg0.N = finalO m c := by
  refine (vdats m 0 c).arrAt_eq_of_covers (4 : Fin 5) (finalO m c) (by decide +kernel) fun t hf y => ?_
  show blkO (arrX m c) (arrQ m c) (arrZ m c) (arrS m c) t.val (win0_4.xinj (grid0.coords t) y)
    = finalO m c ((win0_4.rect t).emb y)
  have e0 : ((win0_4.rect t).emb y 0 : ℕ) = win0_4.index t 0 * 256 + y 0 := win0_4.rect_emb_val t y 0
  have e1 : ((win0_4.rect t).emb y 1 : ℕ) = win0_4.index t 1 * 1024 + y 1 := win0_4.rect_emb_val t y 1
  rw [(index5 t).1] at e0
  rw [(index5 t).2] at e1
  have f0 : win0_4.xinj (grid0.coords t) y 0 = (win0_4.rect t).emb y 0 := Fin.ext (by
    refine Eq.trans ?_ e0.symm
    show (y 0).val = _
    omega)
  have f1 : 1024 * (t.val / 9) + (win0_4.xinj (grid0.coords t) y 1).val = ((win0_4.rect t).emb y 1).val := by
    refine Eq.trans ?_ e1.symm
    show 1024 * (t.val / 9) + (y 1).val = _
    omega
  unfold blkO finalO
  show specN (arrX m c) (arrQ m c) (arrZ m c) (arrS m c) (win0_4.xinj (grid0.coords t) y 0) (1024 * (t.val / 9) + (win0_4.xinj (grid0.coords t) y 1).val) = _
  rw [f0, f1]

/-- What the run ends with. -/
def ValueQ (r : PUnit × MemSt nD τ sig (Elt Ideal)) : Prop :=
  ∀ c : Dev nD,
    r.2.mem ((c.tc : Thread nD τ).loc main_v4) = shapeCast S256x1x20224 (finalO m c) shapeCasts_S256x20224_S256x1x20224
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem W_main_v4 (c : Dev nD) :
    Pipeline.afterTail₀ cfgs (vdats m) 0 (Gen.V0 m) [Gen.hostOps1] c main_v4 = shapeCast S256x1x20224 (finalO m c) shapeCasts_S256x20224_S256x1x20224 := by
  unfold Pipeline.afterTail₀
  simp only [Gen.hostOps1, List.flatten_cons, List.flatten_nil, List.append_nil, StableHlo.after_cons, StableHlo.after_nil]
  rw [StableHlo.reshape_result]
  have e : Pipeline.withArrays (cfgs 0).spec c (Gen.V0 m c) (fun w => (vdats m 0 c).arrAt w (cfgs 0).N) (Proc.devRef .tc main_v3) = finalO m c :=
    (Pipeline.withArrays_arr (cfgs 0).spec (by decide) c (Gen.V0 m c) (fun w => (vdats m 0 c).arrAt w (cfgs 0).N) (4 : Fin 5)).trans (arrAt_4 m c)
  rw [e]
  rfl

theorem accAt_start (X : Vec Ideal S256x11520 .bf16) (Q : Vec Ideal S11520x2528 .i32) (Z : Vec Ideal S1x2528 .i32) (t : ℕ) (h : t % 9 = 0)
    (A : Vec Ideal S256x1024 .f32) : AccAt X Q Z t A := fun h' => absurd h h'

theorem held_in (c : Dev nD) : Pipeline.ΦA spec0 c ⊢ (vdats m 0 c).Φ 0 := by
  show _ ⊢ heldAt m c 0
  unfold Pipeline.ΦA heldAt
  rw [Gen.scopedRest0_eq]
  iintro ⟨⟨⟨%w, H7⟩, ⟨%A, H8⟩⟩, Hr⟩
  isplitl [H7 H8]
  · isplitl [H7]
    · iexists w; iexact H7
    · iexists A; isplitr
      · ipureintro
        exact accAt_start _ _ _ 0 rfl A
      · iexact H8
  · iexact Hr

theorem held_out (c : Dev nD) : (vdats m 0 c).Φ (Fin.last cfg0.N) ⊢ Pipeline.ΦA spec0 c := by
  show heldAt m c cfg0.N ⊢ _
  unfold Pipeline.ΦA heldAt
  rw [Gen.scopedRest0_eq]
  iintro ⟨⟨⟨%w, H7⟩, ⟨%A, %hA, H8⟩⟩, Hr⟩
  isplitl [H7 H8]
  · isplitl [H7]
    · iexists w; iexact H7
    · iexists A; iexact H8
  · iexact Hr

set_option backward.isDefEq.respectTransparency.types false in
/-- The run, with the value of its result. -/
theorem value_run : θ_run defs (onTc (τ := τ) (main (F := Ideal))) ⟨m, fun _ => 0, ρ⟩ (ValueQ m) :=
  Pipeline.θ_run_frame_around_track cfgs (vdats m) (0 : Fin 1) Gen.launch0 defs₀ 𝒱₀ m ρ main
    (hbody := value_body m)
    (hshare := fun c => (vdats m 0 c).share_full fun _ => rfl) (howed := fun _ _ => rfl)
    (V₀ := Gen.V0 m) (opss := [Gen.hostOps1]) (hsub := Gen.sfx_sub) (hfresh := Gen.sfx_fresh) (hkeep := Gen.sfx_keeps)
    (hmain := Gen.hmain m 𝒱₀) (hA := fun _ _ => rfl) (hin := held_in m) (hout := held_out m)
    (Q' := ValueQ m)
    (hQ' := fun r h c => ⟨
      ((h.1 c).2 main_v4 (Pipeline.mem_restRefs_of main_v4 (by decide) (by decide))).trans (W_main_v4 m c),
      ((h.1 c).2 main_arg0 (Pipeline.mem_restRefs_of main_arg0 (by decide) (by decide))).trans (Gen.W_main_arg0 m (vdats m) c),
      ((h.1 c).1 1).trans (((vdats m 0 c).arrAt_in 1 rfl _).trans (Gen.V_main_arg1 m c)),
      ((h.1 c).2 main_arg2 (Pipeline.mem_restRefs_of main_arg2 (by decide) (by decide))).trans (Gen.W_main_arg2 m (vdats m) c),
      ((h.1 c).2 main_arg3 (Pipeline.mem_restRefs_of main_arg3 (by decide) (by decide))).trans (Gen.W_main_arg3 m (vdats m) c)⟩)

/-! ## The arrays, from the arguments -/

theorem arrQ_eq (c : Dev nD) : arrQ m c = m ((c.tc : Thread nD τ).loc main_arg1) := Gen.V_main_arg1 m c

theorem arrX_eq (c : Dev nD) : arrX m c = shapeCast S256x11520 (m ((c.tc : Thread nD τ).loc main_arg0)) shapeCasts_S256x1x11520_S256x11520 := by
  show StableHlo.after (List.flatten [Gen.hostOps0]) _ (Proc.devRef .tc main_v0) = _
  simp only [Gen.hostOps0, List.flatten_cons, List.flatten_nil, List.append_nil]
  after_results
  rfl

theorem arrZ_eq (c : Dev nD) : arrZ m c = shapeCast S1x2528 (m ((c.tc : Thread nD τ).loc main_arg2)) shapeCasts_S2528_S1x2528 := by
  show StableHlo.after (List.flatten [Gen.hostOps0]) _ (Proc.devRef .tc main_v1) = _
  simp only [Gen.hostOps0, List.flatten_cons, List.flatten_nil, List.append_nil]
  after_results
  rfl

theorem arrS_eq (c : Dev nD) : arrS m c = shapeCast S1x20224 (m ((c.tc : Thread nD τ).loc main_arg3)) shapeCasts_S20224_S1x20224 := by
  show StableHlo.after (List.flatten [Gen.hostOps0]) _ (Proc.devRef .tc main_v2) = _
  simp only [Gen.hostOps0, List.flatten_cons, List.flatten_nil, List.append_nil]
  after_results
  rfl

end Cert.KernelIdeal.Hand

end
-- ==== Proof.ReferenceIdeal.Value.lean ====
/- What the reference returns, element by element. -/
module

public import proofs.«01_k».proof.Proof.Gen.ReferenceIdeal.Run
public import proofs.«01_k».proof.Proof.Math.Words
public import Idealize.ShloMosaic.Lib.Pointwise

@[expose] public section

noncomputable section

namespace Cert.ReferenceIdeal.Hand

open Idealize.ShloMosaic Cert.ReferenceIdeal.Facts₀ Cert.ReferenceIdeal.Facts
open Cert.Awq

/-- One field's columns of the result, the field read by shifting the words by `b`, the scales `s` and the rows' sums `u`. -/
def fieldCols (x : FVec Ideal S256x1x11520 .bf16) (q : IVec S11520x2528 32) (z : IVec S2528 32) (u : FVec Ideal S256x1x1 .f32)
    (s : FVec Ideal S2528 .f32) (b : BitVec 32) : FVec Ideal S256x1x2528x1 .f32 :=
  broadcastInDim S256x1x2528x1 ![0, 1, 2] bcast_S256x1x2528_S256x1x2528x1_0_1_2
    (mulf
      (subf
        (Host.dotGeneral dot_S256x1x11520_S11520x2528_S256x1x2528_2_0_01_1_n_n none x
          (sitofp .bf16 (andi (Host.shrsi q (broadcastInDim S11520x2528 ![] bcast_S_S11520x2528 (constantI S_ 32 b)))
            (broadcastInDim S11520x2528 ![] bcast_S_S11520x2528 (constantI S_ 32 15#32)))))
        (mulf
          (broadcastInDim S256x1x2528 ![0, 1, 2] bcast_S1x1x2528_S256x1x2528_0_1_2
            (broadcastInDim S1x1x2528 ![2] bcast_S2528_S1x1x2528_2
              (sitofp .f32 (andi (Host.shrsi z (broadcastInDim S2528 ![] bcast_S_S2528 (constantI S_ 32 b)))
                (broadcastInDim S2528 ![] bcast_S_S2528 (constantI S_ 32 15#32))))))
          (broadcastInDim S256x1x2528 ![0, 1, 2] bcast_S256x1x1_S256x1x2528_0_1_2 u)))
      (broadcastInDim S256x1x2528 ![0, 1, 2] bcast_S1x1x2528_S256x1x2528_0_1_2
        (broadcastInDim S1x1x2528 ![2] bcast_S2528_S1x1x2528_2 s)))

/-- A field of a word, as the host reads it. -/
theorem field_read (φ : FTy) (w : BitVec 32) (j : ℕ) (hj : j < 8) :
    (FloatOps.sitofp φ (IntOp.andi (IntOp.shrsi ArithUnit.host w (BitVec.ofNat 32 (4 * j))) 15#32) : Ideal φ) = ((nibR w j : ℝ) : EReal) := by
  have e : IntOp.shrsi .host w (BitVec.ofNat 32 (4 * j)) = w.sshiftRight (4 * j) := by
    have h : (BitVec.ofNat 32 (4 * j)).toNat = 4 * j := by rw [BitVec.toNat_ofNat]; omega
    unfold IntOp.shrsi
    rw [if_pos (by omega), BitVec.sshiftRight', h]
  rw [e]
  show (((w.sshiftRight (4 * j) &&& 15#32).toInt : ℝ) : EReal) = _
  rw [sshr_and w j hj, toInt_nib]
  unfold nibR
  norm_cast

theorem fieldCols_apply (x : FVec Ideal S256x1x11520 .bf16) (q : IVec S11520x2528 32) (z : IVec S2528 32) (u : FVec Ideal S256x1x1 .f32)
    (s : FVec Ideal S2528 .f32) (j : ℕ) (hj : j < 8) (r : Fin 256) (n : Fin 2528) :
    fieldCols x q z u s (BitVec.ofNat 32 (4 * j)) (ix4 r 0 n 0)
      = ((∑ k : Fin 11520, (x (ix3 r 0 k) : EReal) * ((nibR (q (ix2 k n)) j : ℝ) : EReal))
          - ((nibR (z (ix1 n)) j : ℝ) : EReal) * u (ix3 r 0 0)) * s (ix1 n) := by
  pointwise [fieldCols]
  simp only [field_read _ _ j hj]

/-- The eight fields' columns, interleaved: the last axis picks the piece. -/
theorem eight_apply (p : Fin 8 → FVec Ideal S256x1x2528x1 .f32) (r : Fin 256) (n : Fin 2528) (g : Fin 8) :
    concatenate S256x1x2528x8 3 [⟨S256x1x2528x1, p 0⟩, ⟨S256x1x2528x1, p 1⟩, ⟨S256x1x2528x1, p 2⟩, ⟨S256x1x2528x1, p 3⟩,
      ⟨S256x1x2528x1, p 4⟩, ⟨S256x1x2528x1, p 5⟩, ⟨S256x1x2528x1, p 6⟩, ⟨S256x1x2528x1, p 7⟩]
      concatenates_S256x1x2528x1_S256x1x2528x1_S256x1x2528x1_S256x1x2528x1_S256x1x2528x1_S256x1x2528x1_S256x1x2528x1_S256x1x2528x1_S256x1x2528x8_d3
      (ix4 r 0 n g) = p g (ix4 r 0 n 0) := by
  fin_cases g <;> pointwise

/-- The scales of the columns whose index is `g` over 8. -/
def scaleCols (w : FVec Ideal S2528x8 .f32) (g : ℕ) (h : S2528x8.Slices ![0, g] S2528x1) : FVec Ideal S2528 .f32 :=
  shapeCast S2528 (extractStridedSlice S2528x1 ![0, g] w h) shapeCasts_S2528x1_S2528

theorem v2_apply (V0 : Valuation τ sig (Elt Ideal)) (r : Fin 256) (x : FVec Ideal S256x1x11520 .bf16) (hx : V0 (Proc.devRef .tc main_arg0) = x) :
    (Value.res_main_v2 V0 (ix3 r 0 0) : EReal) = ∑ k : Fin 11520, (x (ix3 r 0 k) : EReal) := by
  subst hx
  pointwise [Value.res_main_v2]

theorem slices_col : ∀ g : Fin 8, S2528x8.Slices ![0, g.val] S2528x1 := by decide

theorem v3_apply (V0 : Valuation τ sig (Elt Ideal)) (n : Fin 2528) (g : Fin 8) (s : FVec Ideal S20224 .f32) (hs : V0 (Proc.devRef .tc main_arg3) = s)
    (h : S2528x8.Slices ![0, g.val] S2528x1) :
    scaleCols (Value.res_main_v3 V0) g.val h (ix1 n) = s (ix1 ⟨n.val * 8 + g.val, by omega⟩) := by
  subst hs
  pointwise [scaleCols, Value.res_main_v3]

/-- The field that the result's columns `g` over 8 hold. -/
def fieldR (g : Fin 8) : ℕ := 4 * (g.val % 2) + g.val / 2 % 4

theorem fieldR_lt (g : Fin 8) : fieldR g < 8 := by unfold fieldR; omega

/-- The result at row `r` and column `8 n + g`, before its change of format. -/
theorem v180_apply (V0 : Valuation τ sig (Elt Ideal)) (x : FVec Ideal S256x1x11520 .bf16) (q : IVec S11520x2528 32) (z : IVec S2528 32)
    (s : FVec Ideal S20224 .f32) (hx : V0 (Proc.devRef .tc main_arg0) = x) (hq : V0 (Proc.devRef .tc main_arg1) = q)
    (hz : V0 (Proc.devRef .tc main_arg2) = z) (hs : V0 (Proc.devRef .tc main_arg3) = s) (r : Fin 256) (n : Fin 2528) (g : Fin 8) :
    (Value.res_main_v180 V0 (ix4 r 0 n g) : EReal)
      = ((∑ k : Fin 11520, (x (ix3 r 0 k) : EReal) * ((nibR (q (ix2 k n)) (fieldR g) : ℝ) : EReal))
          - ((nibR (z (ix1 n)) (fieldR g) : ℝ) : EReal) * ∑ k : Fin 11520, (x (ix3 r 0 k) : EReal))
        * s (ix1 ⟨n.val * 8 + g.val, by omega⟩) := by
  rw [← v2_apply V0 r x hx, ← v3_apply V0 n g s hs (slices_col g)]
  subst hx hq hz
  refine (eight_apply (fun i => fieldCols (V0 (Proc.devRef .tc main_arg0)) (V0 (Proc.devRef .tc main_arg1)) (V0 (Proc.devRef .tc main_arg2))
    (Value.res_main_v2 V0) (scaleCols (Value.res_main_v3 V0) i.val (slices_col i)) (BitVec.ofNat 32 (4 * fieldR i))) r n g).trans ?_
  exact fieldCols_apply _ _ _ _ _ (fieldR g) (fieldR_lt g) r n

/-- The result at row `r` and column `C`. -/
theorem result_apply (V0 : Valuation τ sig (Elt Ideal)) (x : FVec Ideal S256x1x11520 .bf16) (q : IVec S11520x2528 32) (z : IVec S2528 32)
    (s : FVec Ideal S20224 .f32) (hx : V0 (Proc.devRef .tc main_arg0) = x) (hq : V0 (Proc.devRef .tc main_arg1) = q)
    (hz : V0 (Proc.devRef .tc main_arg2) = z) (hs : V0 (Proc.devRef .tc main_arg3) = s) (r : Fin 256) (C : Fin 20224) :
    (truncf .bf16 (shapeCast S256x1x20224 (Value.res_main_v180 V0) shapeCasts_S256x1x2528x8_S256x1x20224 : FVec Ideal S256x1x20224 .f32)
        bitsLt_bf16_f32 (ix3 r 0 C) : EReal)
      = ((∑ k : Fin 11520, (x (ix3 r 0 k) : EReal) * ((nibR (q (ix2 k ⟨C.val / 8, by omega⟩)) (fieldR ⟨C.val % 8, by omega⟩) : ℝ) : EReal))
          - ((nibR (z (ix1 ⟨C.val / 8, by omega⟩)) (fieldR ⟨C.val % 8, by omega⟩) : ℝ) : EReal) * ∑ k : Fin 11520, (x (ix3 r 0 k) : EReal))
        * s (ix1 C) := by
  have e : (truncf .bf16 (shapeCast S256x1x20224 (Value.res_main_v180 V0) shapeCasts_S256x1x2528x8_S256x1x20224 : FVec Ideal S256x1x20224 .f32)
        bitsLt_bf16_f32 (ix3 r 0 C) : EReal) = Value.res_main_v180 V0 (ix4 r 0 ⟨C.val / 8, by omega⟩ ⟨C.val % 8, by omega⟩) := by
    pointwise
  rw [e, v180_apply V0 x q z s hx hq hz hs]
  have e2 : (⟨C.val / 8 * 8 + C.val % 8, by omega⟩ : Fin 20224) = C := Fin.ext (by show C.val / 8 * 8 + C.val % 8 = C.val; omega)
  show _ * s (ix1 ⟨C.val / 8 * 8 + C.val % 8, by omega⟩) = _
  rw [e2]

end Cert.ReferenceIdeal.Hand

end
-- ==== Proof.Math.Algebra.lean ====
/- The algebra between the two programs: for finite rows, a sum of products with differences is the difference of the sums.
   Over the extended reals this needs the rows finite: the sums' difference is lost when one of them is infinite. -/
module

public import Mathlib.Data.EReal.Operations
public import Mathlib.Algebra.BigOperators.Fin
public import Mathlib.Algebra.BigOperators.Ring.Finset
public import Mathlib.Tactic.Ring

@[expose] public section

noncomputable section

namespace Cert.Awq

theorem coe_sum {ι : Type} (s : Finset ι) (y : ι → ℝ) : ((∑ k ∈ s, y k : ℝ) : EReal) = ∑ k ∈ s, ((y k : ℝ) : EReal) := by
  classical
  induction s using Finset.induction_on with
  | empty => simp
  | insert a s ha ih => rw [Finset.sum_insert ha, Finset.sum_insert ha, EReal.coe_add, ih]

theorem sum_mul_sub {n : ℕ} (x : Fin n → EReal) (hx : ∀ k, x k ≠ ⊤ ∧ x k ≠ ⊥) (a : Fin n → ℝ) (b : ℝ) :
    ∑ k, x k * ((a k - b : ℝ) : EReal) = (∑ k, x k * ((a k : ℝ) : EReal)) - ((b : ℝ) : EReal) * ∑ k, x k := by
  obtain ⟨y, rfl⟩ : ∃ y : Fin n → ℝ, x = fun k => ((y k : ℝ) : EReal) :=
    ⟨fun k => (x k).toReal, funext fun k => (EReal.coe_toReal (hx k).1 (hx k).2).symm⟩
  simp only [← EReal.coe_mul, ← coe_sum, ← EReal.coe_sub]
  refine congrArg _ ?_
  rw [Finset.mul_sum, ← Finset.sum_sub_distrib]
  exact Finset.sum_congr rfl fun k _ => by ring

end Cert.Awq

end
-- ==== Proof.Equal.lean ====
/- The two programs' results are equal, element by element, where the activations are finite. -/
module

public import proofs.«01_k».proof.Proof.KernelIdeal.ValueResult
public import proofs.«01_k».proof.Proof.ReferenceIdeal.Value
public import proofs.«01_k».proof.Proof.Math.Algebra
public import proofs.«01_k».proof.Proof.Gen.Pre_x_finite

@[expose] public section

noncomputable section

namespace Cert.Equal

open Idealize.ShloMosaic
open Cert.Awq Cert.KernelIdeal.Hand

/-- An element whose absolute value is below infinity is finite. -/
theorem finite_of_pre (x : FVec Ideal Cert.Pre_x_finite.S256x1x11520 .bf16) (q : IVec Cert.Pre_x_finite.S11520x2528 32)
    (z : IVec Cert.Pre_x_finite.S2528 32) (s : FVec Ideal Cert.Pre_x_finite.S20224 .f32)
    (h : Cert.Pre_x_finite.fn (F := Ideal) x q z s = fun _ => 1#1) (r : Fin 256) (k : Fin 11520) :
    (x (ix3 r 0 k) : EReal) ≠ ⊤ ∧ (x (ix3 r 0 k) : EReal) ≠ ⊥ := by
  have h1 := congrFun h (ix3 r 0 k)
  pointwise [Cert.Pre_x_finite.fn] at h1
  have hinf : Ideal.ofBits .bf16 32640#16 = (⊤ : EReal) := by simp [Ideal.ofBits, Ideal.ieee]
  have hlt : (FloatOps.absf (x (ix3 r 0 k)) : Ideal .bf16) < (⊤ : EReal) := by
    by_contra hn
    rw [hinf, decide_eq_false hn] at h1
    exact absurd h1 (by decide)
  constructor
  · intro e
    rw [e] at hlt
    exact absurd hlt (by simp [Ideal.absf_def])
  · intro e
    rw [e] at hlt
    exact absurd hlt (by simp [Ideal.absf_def])

/-- The kernel's result at row `r` and column `C`, by the arguments. -/
theorem spec_apply (x : FVec Ideal Cert.KernelIdeal.S256x1x11520 .bf16) (q : IVec Cert.KernelIdeal.S11520x2528 32)
    (z : IVec Cert.KernelIdeal.S2528 32) (s : FVec Ideal Cert.KernelIdeal.S20224 .f32)
    (hx : Cert.KernelIdeal.S256x1x11520.ShapeCasts Cert.KernelIdeal.S256x11520) (hz : Cert.KernelIdeal.S2528.ShapeCasts Cert.KernelIdeal.S1x2528)
    (hs : Cert.KernelIdeal.S20224.ShapeCasts Cert.KernelIdeal.S1x20224) (r : Fin 256) (C : Fin 20224) :
    specN (shapeCast Cert.KernelIdeal.S256x11520 x hx) q (shapeCast Cert.KernelIdeal.S1x2528 z hz) (shapeCast Cert.KernelIdeal.S1x20224 s hs) r C.val
      = (∑ k : Fin 11520, (x (ix3 r 0 k) : EReal)
          * ((nibR (q (ix2 k ⟨C.val / 8, by omega⟩)) (fieldOf (C.val % 8)) - nibR (z (ix1 ⟨C.val / 8, by omega⟩)) (fieldOf (C.val % 8)) : ℝ) : EReal))
        * s (ix1 C) := by
  have hn : C.val / 8 < 2528 := by omega
  have eS : sN (shapeCast Cert.KernelIdeal.S1x20224 s hs) C.val = s (ix1 C) := by
    unfold sN
    rw [dif_pos C.isLt]
    show shapeCast Cert.KernelIdeal.S1x20224 s hs (ix2 0 C) = _
    pointwise
  have eZ : zN (shapeCast Cert.KernelIdeal.S1x2528 z hz) (C.val / 8) = z (ix1 ⟨C.val / 8, hn⟩) := by
    unfold zN
    rw [dif_pos hn]
    show shapeCast Cert.KernelIdeal.S1x2528 z hz (ix2 0 ⟨C.val / 8, hn⟩) = _
    pointwise
  unfold specN accN
  rw [eS, eZ, Finset.sum_range]
  refine congrArg (· * (s (ix1 C) : EReal)) (Finset.sum_congr rfl fun k _ => ?_)
  have eX : xN (shapeCast Cert.KernelIdeal.S256x11520 x hx) r k.val = x (ix3 r 0 k) := by
    unfold xN
    rw [dif_pos k.isLt]
    show shapeCast Cert.KernelIdeal.S256x11520 x hx (ix2 r k) = _
    pointwise
  have eQ : qN q k.val (C.val / 8) = q (ix2 k ⟨C.val / 8, hn⟩) := by
    unfold qN
    rw [dif_pos ⟨k.isLt, hn⟩]
    rfl
  rw [eX, eQ]

/-- The two results. -/
theorem results_equal (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (x : FVec Ideal Cert.KernelIdeal.S256x1x11520 .bf16) (q : IVec Cert.KernelIdeal.S11520x2528 32)
    (z : IVec Cert.KernelIdeal.S2528 32) (s : FVec Ideal Cert.KernelIdeal.S20224 .f32)
    (kx : m ((c.tc : Thread Cert.KernelIdeal.nD Cert.KernelIdeal.τ).loc Cert.KernelIdeal.main_arg0) = x)
    (kq : m ((c.tc : Thread Cert.KernelIdeal.nD Cert.KernelIdeal.τ).loc Cert.KernelIdeal.main_arg1) = q)
    (kz : m ((c.tc : Thread Cert.KernelIdeal.nD Cert.KernelIdeal.τ).loc Cert.KernelIdeal.main_arg2) = z)
    (ks : m ((c.tc : Thread Cert.KernelIdeal.nD Cert.KernelIdeal.τ).loc Cert.KernelIdeal.main_arg3) = s)
    (rx : V0 (Proc.devRef .tc Cert.ReferenceIdeal.main_arg0) = x) (rq : V0 (Proc.devRef .tc Cert.ReferenceIdeal.main_arg1) = q)
    (rz : V0 (Proc.devRef .tc Cert.ReferenceIdeal.main_arg2) = z) (rs : V0 (Proc.devRef .tc Cert.ReferenceIdeal.main_arg3) = s)
    (hfin : ∀ (r : Fin 256) (k : Fin 11520), (x (ix3 r 0 k) : EReal) ≠ ⊤ ∧ (x (ix3 r 0 k) : EReal) ≠ ⊥) :
    (truncf .bf16 (shapeCast Cert.ReferenceIdeal.S256x1x20224 (Cert.ReferenceIdeal.Value.res_main_v180 V0)
        Cert.ReferenceIdeal.Facts₀.shapeCasts_S256x1x2528x8_S256x1x20224 : FVec Ideal Cert.ReferenceIdeal.S256x1x20224 .f32)
        Cert.ReferenceIdeal.Facts₀.bitsLt_bf16_f32 : FVec Ideal Cert.ReferenceIdeal.S256x1x20224 .bf16)
      = shapeCast Cert.KernelIdeal.S256x1x20224 (finalO m c) Cert.KernelIdeal.Facts₀.shapeCasts_S256x20224_S256x1x20224 := by
  funext j
  obtain ⟨r, C, rfl⟩ : ∃ (r : Fin 256) (C : Fin 20224), j = ix3 r 0 C := ⟨j 0, j 2, funext fun a => by
    match a with
    | ⟨0, _⟩ => rfl
    | ⟨1, _⟩ =>
      refine Fin.ext ?_
      have : (j 1).val < 1 := (j 1).isLt
      show (j 1).val = 0
      omega
    | ⟨2, _⟩ => rfl⟩
  refine (Cert.ReferenceIdeal.Hand.result_apply V0 x q z s rx rq rz rs r C).trans ?_
  have ek : shapeCast Cert.KernelIdeal.S256x1x20224 (finalO m c) Cert.KernelIdeal.Facts₀.shapeCasts_S256x20224_S256x1x20224 (ix3 r 0 C)
      = finalO m c (ix2 r C) := by pointwise
  refine Eq.trans ?_ ek.symm
  show _ = specN (arrX m c) (arrQ m c) (arrZ m c) (arrS m c) r C.val
  rw [arrX_eq, arrQ_eq, arrZ_eq, arrS_eq, kx, kq, kz, ks]
  refine Eq.trans ?_ (spec_apply x q z s _ _ _ r C).symm
  refine congrArg (· * (s (ix1 C) : EReal)) ?_
  exact (sum_mul_sub (fun k => (x (ix3 r 0 k) : EReal)) (hfin r) _ _).symm

end Cert.Equal

end
-- ==== Proof.lean ====
module

public import proofs.«01_k».proof.Defs
public import proofs.«01_k».proof.Proof.Kernel.FrameRun
public import proofs.«01_k».proof.Proof.KernelIdeal.FrameRun
public import proofs.«01_k».proof.Proof.KernelIdeal.ValueResult
public import proofs.«01_k».proof.Proof.Equal
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_x_finite
public import Idealize.ShloMosaic.Lib.Quiescent
public import Idealize.ShloMosaic.Lib.Claim

@[expose] public section

noncomputable section

namespace Cert.Proof

open Idealize.ShloMosaic Idealize.SL.Sem

/-- The kernel at its words runs, leaves its arguments unchanged and its counters at zero. -/
theorem frame_kernel : quiescent_Kernel := fun m g _ => Cert.Kernel.Hand.frame_run m g

/-- The kernel over the extended reals runs, leaves its arguments unchanged and its counters at zero. -/
theorem frame_kernelIdeal : quiescent_KernelIdeal := fun m g _ => Cert.KernelIdeal.Hand.frame_run m g

/-- The reference over the extended reals runs and leaves its arguments unchanged; it has no counter. -/
theorem frame_referenceIdeal : quiescent_ReferenceIdeal := fun m g _ =>
  (θ_run _ _ _).mono (fun r h => ⟨fun c => (h c).2, sem_eq_zero_of_no_sems (by decide) r.2⟩)
    (Cert.ReferenceIdeal.Value.run m g)

/-- The same two under the precondition. -/
theorem frame_kernelIdeal_finite : quiescent_KernelIdeal_pre_x_finite := fun m g _ => Cert.KernelIdeal.Hand.frame_run m g

theorem frame_referenceIdeal_finite : quiescent_ReferenceIdeal_pre_x_finite := fun m g _ => frame_referenceIdeal m g trivial

/-- The kernel and the reference over the extended reals return the same, where the activations are finite. -/
theorem algebraic : algebraic_KernelIdeal_ReferenceIdeal_pre_x_finite := fun m g m' g' hpre hargs =>
  ⟨fun c => shapeCast Cert.KernelIdeal.S256x1x20224 (Cert.KernelIdeal.Hand.finalO m c) Cert.KernelIdeal.Facts₀.shapeCasts_S256x20224_S256x1x20224,
    Cert.KernelIdeal.Hand.value_run m g,
    (θ_run _ _ _).mono (fun r h c => ⟨(h c).1.trans
        (Cert.Equal.results_equal m (StableHlo.launchContents m' c) c _ _ _ _ rfl rfl rfl rfl
          (hargs c).1 (hargs c).2.1 (hargs c).2.2.1 (hargs c).2.2.2
          (Cert.Equal.finite_of_pre _ _ _ _ (hpre c))), (h c).2⟩)
      (Cert.ReferenceIdeal.Value.run m' g')⟩

theorem claim : Cert.Claim :=
  ⟨Cert.Kernel.Gen.facts, Cert.KernelIdeal.Gen.facts, Cert.ReferenceIdeal.Gen.facts, Cert.Pre_x_finite.Gen.facts,
    frame_kernel, frame_kernelIdeal, frame_kernelIdeal_finite, frame_referenceIdeal, frame_referenceIdeal_finite, trivial, algebraic⟩

end Cert.Proof

end
